-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 512]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x256 : Shape := ⟨3, ![1, 256, 256]⟩
abbrev S256x512 : Shape := ⟨2, ![256, 512]⟩
abbrev S256x256 : Shape := ⟨2, ![256, 256]⟩
abbrev S_ : Shape := ⟨0, ![]⟩
abbrev S8 : Shape := ⟨1, ![8]⟩
abbrev S128x256 : Shape := ⟨2, ![128, 256]⟩
abbrev S1x128x256 : Shape := ⟨3, ![1, 128, 256]⟩
abbrev S1 : Shape := ⟨1, ![1]⟩
abbrev S32x256 : Shape := ⟨2, ![32, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x256, .f32⟩
  | .hbm, ⟨1, _⟩ => ⟨S256x512, .f32⟩
  | .local _ .vmem, ⟨0, _⟩ => ⟨S256x512, .f32⟩
  | .local _ .vmem, ⟨1, _⟩ => ⟨S256x256, .f32⟩
  | .local _ .vmem, ⟨2, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v15 : BitVec 32 := Scalar.muli v6 c2_i32_13
  let v16 : BitVec 32 := Scalar.addi c0_i32_14 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v17 : BitVec 32 := Scalar.muli v5 c1_i32_15
  let v18 : BitVec 32 := Scalar.addi v16 v17
  v18.toNat
def k0_dev2 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v19 : BitVec 32 := Scalar.muli v2 c2_i32_17
  let v20 : BitVec 32 := Scalar.addi c0_i32_18 v19
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_19 : BitVec 32 := 1#32
  let v21 : BitVec 32 := Scalar.muli v7 c1_i32_19
  let v22 : BitVec 32 := Scalar.addi v20 v21
  v22.toNat
def k0_dev3 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v26 : BitVec 32 := Scalar.muli v6 c2_i32_28
  let v27 : BitVec 32 := Scalar.addi c0_i32_29 v26
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v28 : BitVec 32 := Scalar.muli v5 c1_i32_30
  let v29 : BitVec 32 := Scalar.addi v27 v28
  v29.toNat
def k0_dev4 (d0 : Dev nD) : Nat :=
  let c0_i32_38 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_37 : BitVec 32 := 2#32
  let v36 : BitVec 32 := Scalar.muli v6 c2_i32_37
  let v37 : BitVec 32 := Scalar.addi c0_i32_38 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v38 : BitVec 32 := Scalar.muli v5 c1_i32_39
  let v39 : BitVec 32 := Scalar.addi v37 v38
  v39.toNat
def k0_dev5 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v46 : BitVec 32 := Scalar.muli v6 c2_i32_45
  let v47 : BitVec 32 := Scalar.addi c0_i32_46 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v48 : BitVec 32 := Scalar.muli v5 c1_i32_47
  let v49 : BitVec 32 := Scalar.addi v47 v48
  v49.toNat
def k0_dev6 (d0 : Dev nD) : Nat :=
  let c0_i32_53 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_52 : BitVec 32 := 2#32
  let v56 : BitVec 32 := Scalar.muli v6 c2_i32_52
  let v57 : BitVec 32 := Scalar.addi c0_i32_53 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v58 : BitVec 32 := Scalar.muli v5 c1_i32_54
  let v59 : BitVec 32 := Scalar.addi v57 v58
  v59.toNat
def k0_dev7 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v69 : BitVec 32 := Scalar.muli v6 c2_i32_64
  let v70 : BitVec 32 := Scalar.addi c0_i32_65 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v71 : BitVec 32 := Scalar.muli v5 c1_i32_66
  let v72 : BitVec 32 := Scalar.addi v70 v71
  v72.toNat
def k0_dev8 (d0 : Dev nD) : Nat :=
  let c0_i32_73 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_72 : BitVec 32 := 2#32
  let v79 : BitVec 32 := Scalar.muli v6 c2_i32_72
  let v80 : BitVec 32 := Scalar.addi c0_i32_73 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v81 : BitVec 32 := Scalar.muli v5 c1_i32_74
  let v82 : BitVec 32 := Scalar.addi v80 v81
  v82.toNat
def k0_dev9 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v89 : BitVec 32 := Scalar.muli v6 c2_i32_79
  let v90 : BitVec 32 := Scalar.addi c0_i32_80 v89
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v91 : BitVec 32 := Scalar.muli v5 c1_i32_81
  let v92 : BitVec 32 := Scalar.addi v90 v91
  v92.toNat
def k0_dev10 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v99 : BitVec 32 := Scalar.muli v6 c2_i32_86
  let v100 : BitVec 32 := Scalar.addi c0_i32_87 v99
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v101 : BitVec 32 := Scalar.muli v5 c1_i32_88
  let v102 : BitVec 32 := Scalar.addi v100 v101
  v102.toNat
def k0_off1 (d0 : Dev nD) : Fin 2 → Nat :=
  let c0_104 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v121 : Index := Scalar.indexCast v109
  ![0, v121.toNat]
def k0_off2 (d0 : Dev nD) : Fin 2 → Nat :=
  let c0_i32_110 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![0, v109.toNat]
def k0_dev11 (d0 : Dev nD) : Nat :=
  let c0_i32_108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_107 : BitVec 32 := 2#32
  let v123 : BitVec 32 := Scalar.muli v2 c2_i32_107
  let v124 : BitVec 32 := Scalar.addi c0_i32_108 v123
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_109 : BitVec 32 := 1#32
  let v125 : BitVec 32 := Scalar.muli v7 c1_i32_109
  let v126 : BitVec 32 := Scalar.addi v124 v125
  v126.toNat
def k0_off3 (d0 : Dev nD) : Fin 2 → Nat :=
  let c32_124 : Index := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v144 : Index := Scalar.indexCast v109
  ![32, v144.toNat]
def k0_off4 (d0 : Dev nD) : Fin 2 → Nat :=
  let c32_i32_130 : BitVec 32 := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![32, v109.toNat]
def k0_dev12 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v146 : BitVec 32 := Scalar.muli v2 c2_i32_127
  let v147 : BitVec 32 := Scalar.addi c0_i32_128 v146
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_129 : BitVec 32 := 1#32
  let v148 : BitVec 32 := Scalar.muli v7 c1_i32_129
  let v149 : BitVec 32 := Scalar.addi v147 v148
  v149.toNat
def k0_off5 (d0 : Dev nD) : Fin 2 → Nat :=
  let c64_144 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v167 : Index := Scalar.indexCast v109
  ![64, v167.toNat]
def k0_off6 (d0 : Dev nD) : Fin 2 → Nat :=
  let c64_i32_150 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![64, v109.toNat]
def k0_dev13 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v169 : BitVec 32 := Scalar.muli v2 c2_i32_147
  let v170 : BitVec 32 := Scalar.addi c0_i32_148 v169
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_149 : BitVec 32 := 1#32
  let v171 : BitVec 32 := Scalar.muli v7 c1_i32_149
  let v172 : BitVec 32 := Scalar.addi v170 v171
  v172.toNat
def k0_off7 (d0 : Dev nD) : Fin 2 → Nat :=
  let c96_164 : Index := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v190 : Index := Scalar.indexCast v109
  ![96, v190.toNat]
def k0_off8 (d0 : Dev nD) : Fin 2 → Nat :=
  let c96_i32_170 : BitVec 32 := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![96, v109.toNat]
def k0_dev14 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v192 : BitVec 32 := Scalar.muli v2 c2_i32_167
  let v193 : BitVec 32 := Scalar.addi c0_i32_168 v192
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_169 : BitVec 32 := 1#32
  let v194 : BitVec 32 := Scalar.muli v7 c1_i32_169
  let v195 : BitVec 32 := Scalar.addi v193 v194
  v195.toNat
def k0_off9 (d0 : Dev nD) : Fin 2 → Nat :=
  let c128_184 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v213 : Index := Scalar.indexCast v109
  ![128, v213.toNat]
def k0_off10 (d0 : Dev nD) : Fin 2 → Nat :=
  let c128_i32_190 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![128, v109.toNat]
def k0_dev15 (d0 : Dev nD) : Nat :=
  let c0_i32_188 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_187 : BitVec 32 := 2#32
  let v215 : BitVec 32 := Scalar.muli v2 c2_i32_187
  let v216 : BitVec 32 := Scalar.addi c0_i32_188 v215
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_189 : BitVec 32 := 1#32
  let v217 : BitVec 32 := Scalar.muli v7 c1_i32_189
  let v218 : BitVec 32 := Scalar.addi v216 v217
  v218.toNat
def k0_off11 (d0 : Dev nD) : Fin 2 → Nat :=
  let c160_204 : Index := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v236 : Index := Scalar.indexCast v109
  ![160, v236.toNat]
def k0_off12 (d0 : Dev nD) : Fin 2 → Nat :=
  let c160_i32_210 : BitVec 32 := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![160, v109.toNat]
def k0_dev16 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v238 : BitVec 32 := Scalar.muli v2 c2_i32_207
  let v239 : BitVec 32 := Scalar.addi c0_i32_208 v238
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_209 : BitVec 32 := 1#32
  let v240 : BitVec 32 := Scalar.muli v7 c1_i32_209
  let v241 : BitVec 32 := Scalar.addi v239 v240
  v241.toNat
def k0_off13 (d0 : Dev nD) : Fin 2 → Nat :=
  let c192_224 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v259 : Index := Scalar.indexCast v109
  ![192, v259.toNat]
def k0_off14 (d0 : Dev nD) : Fin 2 → Nat :=
  let c192_i32_230 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![192, v109.toNat]
def k0_dev17 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v261 : BitVec 32 := Scalar.muli v2 c2_i32_227
  let v262 : BitVec 32 := Scalar.addi c0_i32_228 v261
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_229 : BitVec 32 := 1#32
  let v263 : BitVec 32 := Scalar.muli v7 c1_i32_229
  let v264 : BitVec 32 := Scalar.addi v262 v263
  v264.toNat
def k0_off15 (d0 : Dev nD) : Fin 2 → Nat :=
  let c224_244 : Index := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  let v282 : Index := Scalar.indexCast v109
  ![224, v282.toNat]
def k0_off16 (d0 : Dev nD) : Fin 2 → Nat :=
  let c224_i32_250 : BitVec 32 := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v109 : BitVec 32 := Scalar.muli v5 c256_i32
  ![224, v109.toNat]
def k0_dev18 (d0 : Dev nD) : Nat :=
  let c0_i32_248 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_247 : BitVec 32 := 2#32
  let v284 : BitVec 32 := Scalar.muli v2 c2_i32_247
  let v285 : BitVec 32 := Scalar.addi c0_i32_248 v284
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_249 : BitVec 32 := 1#32
  let v286 : BitVec 32 := Scalar.muli v7 c1_i32_249
  let v287 : BitVec 32 := Scalar.addi v285 v286
  v287.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
The kernel's body in the order it runs, with its four unrolled stretches written as loops over the
eight row chunks.

The 256 rows of a device's block are cut into eight chunks of 32 rows. A chunk is sent to the partner
on the mesh's first axis, waited for, summed with the chunk that partner sent, and the sum is sent to
the partner on the second axis. Every memory operation below is the printed one; only the chunk's
number is a variable. `body_eq_looped` says the printed body is this program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Mesh

open Cert.KernelIdeal Cert.KernelIdeal.Gen
open Idealize.ShloMosaic Idealize.ShloMosaic.TcCoe
open Idealize.SL Idealize.SL.Sem

variable {F : FTy → Type} [FloatOps F]

/-- The number of row chunks. -/
abbrev Chunk : Type := Fin 8

/-- Rows `32 k … 32 k + 31` lie inside a `256 × 256` buffer. -/
theorem rows_inb : ∀ k : Chunk, ∀ a, (![32 * k.val, 0] : Fin 2 → ℕ) a + S32x256.size a ≤ S256x256.size a := by decide

/-- Where a device's column block starts in the `256 × 512` result, at chunk `k`'s rows. -/
def outOff (d : Dev nD) (k : Chunk) : Fin 2 → ℕ := ![32 * k.val, k0_off1 d 1]

theorem outOff_eq : ∀ (d : Dev nD) (k : Chunk), outOff d k = ![32 * k.val, 256 * (d.val % 2)] := by decide +kernel

theorem out_inb : ∀ (d : Dev nD) (k : Chunk), ∀ a, outOff d k a + S32x256.size a ≤ S256x512.size a := by decide +kernel

/-- Semaphore `k` lies inside an array of eight. -/
theorem sem_inb : ∀ k : Chunk, ∀ a, (![k.val] : Fin 1 → ℕ) a + S1.size a ≤ S8.size a := by decide

/-- The `k`-th semaphore of an array of eight. -/
abbrev semAt (a : DmaSems sig S8) (k : Chunk) : DmaSem sig :=
  ((a.slice (Rect.unit (s := S8) ![k.val] S1.size (sem_inb k))).squeeze S_ squeezes_S1_S_).sem

/-- The four arrays: chunks sent to and received from the first-axis partner, then the second-axis one. -/
def semArr : Fin 4 → DmaSems sig S8
  | 0 => cc0_scratch4 | 1 => cc0_scratch5 | 2 => cc0_scratch6 | 3 => cc0_scratch7

/-- The device's input block, the two `256 × 256` scratch buffers (its own rows and its partner's), and the
    result's staging buffer. -/
abbrev argM : Memref sig .tc .hbm S1x256x256 .f32 := Memref.whole main_arg0
abbrev xM : Memref sig .tc .vmem S256x256 .f32 := Memref.whole cc0_scratch0
abbrev rM : Memref sig .tc .vmem S256x256 .f32 := Memref.whole cc0_scratch1
abbrev oM : Memref sig .tc .vmem S256x512 .f32 := Memref.whole cc0_stg0_0

/-- The runtime's barrier semaphore. -/
abbrev barS : Sem sig := (SemArray.scalar (sig.barrier 0 rfl) : Sems sig S_).sem

/-- Chunk `k`'s rectangle in a `256 × 256` buffer, and in the result at device `d`'s column block. -/
abbrev rowsR (k : Chunk) : Rect S256x256 := Rect.unit (s := S256x256) ![32 * k.val, 0] S32x256.size (rows_inb k)
abbrev outR (d : Dev nD) (k : Chunk) : Rect S256x512 := Rect.unit (s := S256x512) (outOff d k) S32x256.size (out_inb d k)

/-- Chunk `k` of the three buffers. -/
abbrev xC (k : Chunk) : Memref sig .tc .vmem S32x256 .f32 := xM.slice (rowsR k) (fun _ => rfl)
abbrev rC (k : Chunk) : Memref sig .tc .vmem S32x256 .f32 := rM.slice (rowsR k) (fun _ => rfl)
abbrev oC (d : Dev nD) (k : Chunk) : Memref sig .tc .vmem S32x256 .f32 := oM.slice (outR d k) (fun _ => rfl)

/-- The two halves of the input block as `128 × 256` buffers, and of the scratch buffer they are copied to. -/
abbrev argTop : Memref sig .tc .hbm S128x256 .f32 :=
  (argM.slice (Rect.unit (s := S1x256x256) ![0, 0, 0] S1x128x256.size inb_S1x256x256_S1x128x256_0_0_0) (fun _ => rfl)).squeeze S128x256 squeezes_S1x128x256_S128x256
abbrev argBot : Memref sig .tc .hbm S128x256 .f32 :=
  (argM.slice (Rect.unit (s := S1x256x256) ![0, 128, 0] S1x128x256.size inb_S1x256x256_S1x128x256_0_128_0) (fun _ => rfl)).squeeze S128x256 squeezes_S1x128x256_S128x256
abbrev xTop : Memref sig .tc .vmem S128x256 .f32 := xM.slice (Rect.unit (s := S256x256) ![0, 0] S128x256.size inb_S256x256_S128x256_0_0) (fun _ => rfl)
abbrev xBot : Memref sig .tc .vmem S128x256 .f32 := xM.slice (Rect.unit (s := S256x256) ![128, 0] S128x256.size inb_S256x256_S128x256_128_0) (fun _ => rfl)

/-- The partners the kernel computes: on the first axis (rows of the mesh) and on the second. -/
abbrev devX (d : Dev nD) : Dev nD := ⟨k0_dev1 d, k0_dev1_lt d⟩
abbrev devY (d : Dev nD) : Dev nD := ⟨k0_dev2 d, k0_dev2_lt d⟩

/-- Programs of the kernel's body. -/
abbrev P (F : FTy → Type) [FloatOps F] : Type 1 := Prog (TpuEff nD τ sig (Elt F) Λ₀ .tc) PUnit

/-- Send chunk `k` of the device's own rows to the first-axis partner. -/
def sendX (d : Dev nD) (k : Chunk) (K : P F) : P F :=
  .op (.enqueueDma (xC k) (.remote (Dev.tc (devX d)) (rC k) (.dma (semAt (semArr 0) k))) (.dma (semAt (semArr 1) k))
    (View.wordExact_bits rfl) (View.wordExact_bits rfl) ⟨⟨rfl, Or.inl rfl⟩, trivial⟩) fun _ => K

/-- Wait for the partner's chunk `k`, store the sum of the two chunks in the result, and send it to the
    second-axis partner. -/
def addSend (d : Dev nD) (k : Chunk) (K : P F) : P F :=
  .op (.waitDma2 (semAt (semArr 1) k) (xC k) (rC k) (View.wordExact_bits rfl) (View.wordExact_bits rfl)) fun _ =>
  .op (.load xM (rowsR k).toLoadRect (View.loadsAt_vmem h_S32x256)) fun v =>
  .op (.load rM (rowsR k).toLoadRect (View.loadsAt_vmem h_S32x256)) fun v' =>
  .op (.load oM (outR d k).toLoadRect (View.loadsAt_vmem h_S32x256)) fun _ =>
  .op (.store oM (outR d k) (k0_pay1 v v') Finset.univ (View.stores_vmem_bits_univ h_S32x256 rfl) (.inl rfl)) fun _ =>
  .op (.enqueueDma (oC d k) (.remote (Dev.tc (devY d)) (oC d k) (.dma (semAt (semArr 2) k))) (.dma (semAt (semArr 3) k))
    (View.wordExact_bits rfl) (View.wordExact_bits rfl) ⟨⟨rfl, Or.inl rfl⟩, trivial⟩) fun _ => K

/-- Wait for the second-axis partner's sum of chunk `k`. -/
def recvY (d : Dev nD) (k : Chunk) (K : P F) : P F :=
  .op (.waitDma2 (semAt (semArr 3) k) (oC d k) (oC d k) (View.wordExact_bits rfl) (View.wordExact_bits rfl)) fun _ => K

/-- Wait until the device's own two transfers of chunk `k` have left. -/
def drain (d : Dev nD) (k : Chunk) (K : P F) : P F :=
  .op (.waitDma2 (semAt (semArr 0) k) (rC k) (xC k) (View.wordExact_bits rfl) (View.wordExact_bits rfl)) fun _ =>
  .op (.waitDma2 (semAt (semArr 2) k) (oC d k) (oC d k) (View.wordExact_bits rfl) (View.wordExact_bits rfl)) fun _ => K

/-- A step done for each chunk of a list in turn, then a continuation. -/
def loop (step : Chunk → P F → P F) : List Chunk → P F → P F
  | [], K => K
  | k :: ks, K => step k (loop step ks K)

/-- The body from the wait for the first half of the device's own rows on. -/
def exchange (d : Dev nD) : P F :=
  .op (.waitDma2 cc0_scratch2.sem argTop xTop ((View.wordExact_bits rfl).reshape _ _) (View.wordExact_bits rfl)) fun _ =>
  loop (sendX d) [0, 1, 2, 3]
  (.op (.waitDma2 cc0_scratch3.sem argBot xBot ((View.wordExact_bits rfl).reshape _ _) (View.wordExact_bits rfl)) fun _ =>
  loop (sendX d) [4, 5, 6, 7]
  (loop (addSend d) [0, 1, 2, 3, 4, 5, 6, 7]
  (loop (recvY d) [0, 1, 2, 3, 4, 5, 6, 7]
  (loop (drain d) [0, 1, 2, 3, 4, 5, 6, 7] (.ret ⟨⟩)))))

/-- The body after it has read its device number. -/
def looped (d : Dev nD) : P F :=
  .op (.enqueueDma argTop (.here xTop) (.dma cc0_scratch2.sem) ((View.wordExact_bits rfl).reshape _ _) (View.wordExact_bits rfl) ⟨Or.inl rfl, trivial⟩) fun _ =>
  .op (.enqueueDma argBot (.here xBot) (.dma cc0_scratch3.sem) ((View.wordExact_bits rfl).reshape _ _) (View.wordExact_bits rfl) ⟨Or.inl rfl, trivial⟩) fun _ =>
  .op (.semSignal (devX d, .tc) barS 1) fun _ =>
  .op (.semSignal (devY d, .tc) barS 1) fun _ =>
  .op (.semWait barS 2) fun _ => exchange d

set_option maxRecDepth 65536 in
/-- The printed body on the kernel's buffers is the looped one. -/
theorem body_eq_looped : cc0_body (F := F) argM (Memref.isWhole_whole _) oM (Memref.isWhole_whole _) xM (Memref.isWhole_whole _) rM (Memref.isWhole_whole _)
    cc0_scratch2 cc0_scratch3 cc0_scratch4 cc0_scratch5 cc0_scratch6 cc0_scratch7
    = .op .deviceId fun d => looped d := by
  simp only [cc0_body_eq_skeleton]
  chain_rfl

end Cert.Mesh

end
-- ==== Proof.Protocol.lean ====
/-
How the four devices share buffers and semaphores during the exchange.

A device `c` has two partners: `devX c` on the mesh's first axis and `devY c` on its second. Five groups of
semaphores carry the exchange: the barrier, and eight each for chunks sent to the first partner (`0`), chunks
received from it (`1`), sums sent to the second partner (`2`) and sums received from it (`3`). Every semaphore is
used for one round. What its units hand over:

* the barrier's two units: the first partner's receive buffer, and the part of the second partner's result that
  this device fills;
* a send semaphore: the elements the transfer read, back to the sender;
* a receive semaphore: the elements the transfer wrote, with what they now hold.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueLayout

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## Resources -/

/-- The exchange's rounds (two kinds of unit per semaphore, named by a truth value); beside them the pipeline's
    own rounds and the counters of transfers that stay on a device. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL

/-- Where the exchange's rounds sit. -/
def ER : Emb UB (MT nD τ sig Unit (Elt F) ℕ UU ℕ) := (Emb.inl : Emb UB (UB × Counters)).trans embR

instance ER_landsIn : (ER : Emb UB 𝕄).LandsIn (upEmb : UEmb _ 𝕄) := by unfold ER; infer_instance

/-! ## Partners -/

theorem devX_devX : ∀ c : Dev nD, devX (devX c) = c := by decide +kernel
theorem devY_devY : ∀ c : Dev nD, devY (devY c) = c := by decide +kernel
theorem devY_ne : ∀ c : Dev nD, devY c ≠ c := by decide +kernel
theorem devX_ne_devY : ∀ c : Dev nD, devX c ≠ devY c := by decide +kernel

/-- The two partner maps as permutations of the devices. -/
def swapX : Dev nD ≃ Dev nD := ⟨fun c => devX c, fun c => devX c, devX_devX, devX_devX⟩
def swapY : Dev nD ≃ Dev nD := ⟨fun c => devY c, fun c => devY c, devY_devY, devY_devY⟩

/-! ## Semaphores -/

/-- A semaphore of the exchange: the barrier, or a group and a chunk. -/
abbrev CK : Type := Option (Fin 4 × Chunk)

abbrev csem : CK → SemLoc sig
  | none => .reg barS
  | some jk => .dma (semAt (semArr jk.1) jk.2)

theorem semAt_val : ∀ (j : Fin 4) (k : Chunk), (semAt (semArr j) k).val = 3 + 8 * j.val + k.val := by decide +kernel

theorem csem_injective : Function.Injective csem := by
  rintro (_ | ⟨j, k⟩) (_ | ⟨j', k'⟩) h
  · rfl
  · cases h
  · cases h
  · have e : (semAt (semArr j) k).val = (semAt (semArr j') k').val := congrArg Fin.val (SemLoc.dma.inj h)
    rw [semAt_val, semAt_val] at e
    have h1 : j = j' := Fin.ext (by omega)
    have h2 : k = k' := Fin.ext (by omega)
    rw [h1, h2]

open Classical in
/-- Which semaphore of the exchange this is, if one. -/
def which (s : SemLoc sig) : Option CK := if h : ∃ k, csem k = s then some h.choose else none

theorem which_csem (k : CK) : which (csem k) = some k := by
  have h : ∃ k', csem k' = csem k := ⟨k, rfl⟩
  unfold which; rw [dif_pos h]; exact congrArg some (csem_injective h.choose_spec)

theorem which_none {s : SemLoc sig} (h : ∀ k, csem k ≠ s) : which s = none := by
  unfold which; exact dif_neg fun ⟨k, e⟩ => h k e

/-- Semaphore `k` on device `c`. -/
abbrev cell (c : Dev nD) (k : CK) : GSem nD τ sig := ((c : Thread nD τ), csem k)

theorem cell_injective : Function.Injective (fun ck : Dev nD × CK => cell ck.1 ck.2) := by
  rintro ⟨c, k⟩ ⟨c', k'⟩ h
  have h1 : c = c' := congrArg (fun g : GSem nD τ sig => g.1.1) h
  have h2 : k = k' := csem_injective (congrArg Prod.snd h)
  rw [h1, h2]

/-- The units one chunk's transfer moves on a semaphore. -/
abbrev N : ℕ := (rC 0).view.dmaCredit
theorem N_pos : 0 < N := View.dmaCredit_pos _ (by decide)

/-! ## Contents -/

variable (m : (ℓ : Loc nD τ sig) → Buf (Elt F) ℓ)

/-- A device's own rows: its input block, whose leading axis has one element. -/
def ownX (c : Dev nD) : S256x256.Idx → Elt F .f32 := fun i =>
  m ((c : Thread nD τ).loc main_arg0) (ix3 (0 : Fin 1) (i 0) (i 1))

/-- The device of `c`'s row of the mesh that fills column `j` of the result, and the column of its block. -/
def filler (c : Dev nD) (j : Fin 512) : Dev nD := ⟨2 * (c.val / 2) + j.val / 256, by have := c.isLt; have : nD = 4 := rfl; omega⟩
def inBlock (j : Fin 512) : Fin 256 := ⟨j.val % 256, Nat.mod_lt _ (by decide)⟩

/-- The sum a device computes: its own rows plus its first partner's. -/
def sumX (d : Dev nD) : S256x256.Idx → Elt F .f32 := fun i => FloatOps.addf (ownX m d i) (ownX m (devX d) i)

/-- What a device's result holds in the end. -/
def result (c : Dev nD) : S256x512.Idx → Elt F .f32 := fun i =>
  sumX m (filler c (i 1)) (ix2 (i 0) (inBlock (i 1)))

theorem devY_half : ∀ c : Dev nD, (devY c).val / 2 = c.val / 2 := by decide +kernel

/-- Both devices of a row of the mesh end with the same result. -/
theorem result_devY (c : Dev nD) : result m (devY c) = result m c := by
  funext i; unfold result filler
  simp only [show (devY c).val / 2 = c.val / 2 from devY_half c]

/-! ## Pieces of buffers -/

/-- Chunk `k` of the own-rows buffer of device `c`, at share `q`; of its receive buffer; of its result at the columns
    of device `d`. -/
def xPts (c : Dev nD) (k : Chunk) (q : PosShare TreeShare) (f : S256x256.Idx → Elt F .f32) : sProp 𝕄 :=
  (xC k).view.loc (c : Thread nD τ) ↦[(xC k).view.set]{q} f
def rPts (c : Dev nD) (k : Chunk) (f : S256x256.Idx → Elt F .f32) : sProp 𝕄 :=
  (rC k).view.loc (c : Thread nD τ) ↦[(rC k).view.set]{fullShare} f
def oPts (c d : Dev nD) (k : Chunk) (f : S256x512.Idx → Elt F .f32) : sProp 𝕄 :=
  (oC d k).view.loc (c : Thread nD τ) ↦[(oC d k).view.set]{fullShare} f

instance xPts_storable (c : Dev nD) (k q f) : BI.Storable (upEmb : UEmb _ 𝕄) (xPts (F := F) c k q f) := by unfold xPts; infer_instance
instance rPts_storable (c : Dev nD) (k f) : BI.Storable (upEmb : UEmb _ 𝕄) (rPts (F := F) c k f) := by unfold rPts; infer_instance
instance oPts_storable (c d : Dev nD) (k f) : BI.Storable (upEmb : UEmb _ 𝕄) (oPts (F := F) c d k f) := by unfold oPts; infer_instance

/-! ## What each semaphore hands over -/

/-- What device `c` receives through semaphore `k`. -/
def pay (c : Dev nD) : CK → Bool → sProp 𝕄
  | none, false => bigSep Finset.univ fun k : Chunk => iprop(∃ f, rPts (devX c) k f)
  | none, true => bigSep Finset.univ fun k : Chunk => iprop(∃ f, oPts (devY c) c k f)
  | some (0, k), _ => xPts c k fullShare.left (ownX m c)
  | some (1, k), _ => rPts c k (ownX m (devX c))
  | some (2, k), _ => oPts c c k (result m c)
  | some (3, k), _ => oPts c (devY c) k (result m c)

instance pay_storable (c : Dev nD) (k : CK) (d : Bool) : BI.Storable (upEmb : UEmb _ 𝕄) (pay (F := F) m c k d) := by
  rcases k with _ | ⟨j, k⟩
  · cases d <;> (unfold pay; infer_instance)
  · fin_cases j <;> (dsimp only [pay]; infer_instance)

/-- One round. The barrier has two units, each a duty of its own; a transfer's semaphore has the one duty `false`, of a
    chunk's units. -/
def rd : Rounds.Schedule (GSem nD τ sig) Bool 𝕄 where
  duties g r := if r = 0 ∧ g.1.2 = .tc then (match which g.2 with | some none => Finset.univ | some (some _) => {false} | none => ∅) else ∅
  unitless _ := False
  amount g _ _ := match which g.2 with | some (some _) => N | _ => 1
  payload g _ d := match which g.2 with | some k => pay m g.1.1 k d | none => iprop(emp)
  amount_pos g _ _ _ := by
    rcases which g.2 with _ | _ | _
    · exact Nat.one_pos
    · exact Nat.one_pos
    · exact N_pos

instance rd_payload_storable (g : GSem nD τ sig) (r : ℕ) (d : Bool) :
    BI.Storable (upEmb : UEmb _ 𝕄) ((rd (F := F) m).payload g r d) := by
  show BI.Storable upEmb (match which g.2 with | some k => pay m g.1.1 k d | none => iprop(emp))
  split <;> infer_instance

section Table
variable (c : Dev nD) (jk : Fin 4 × Chunk)

theorem duties_bar : (rd (F := F) m).duties (cell c none) 0 = Finset.univ := by
  dsimp only [rd]; rw [if_pos ⟨rfl, rfl⟩, which_csem]
theorem duties_dma : (rd (F := F) m).duties (cell c (some jk)) 0 = {false} := by
  dsimp only [rd]; rw [if_pos ⟨rfl, rfl⟩, which_csem]
theorem duties_after (g : GSem nD τ sig) : ∀ r, 1 ≤ r → (rd (F := F) m).duties g r = ∅ :=
  fun r hr => by dsimp only [rd]; exact if_neg fun h => by omega
theorem amount_bar (d : Bool) : (rd (F := F) m).amount (cell c none) 0 d = 1 := by
  dsimp only [rd]; rw [which_csem]
theorem amount_dma (d : Bool) : (rd (F := F) m).amount (cell c (some jk)) 0 d = N := by
  dsimp only [rd]; rw [which_csem]
theorem payload_cell (k : CK) (d : Bool) : (rd (F := F) m).payload (cell c k) 0 d = pay m c k d := by
  dsimp only [rd]; rw [which_csem]

theorem expect_bar : (rd (F := F) m).expect (cell c none) 0 = 2 := by
  unfold Schedule.expect Schedule.amountOf
  rw [duties_bar, Finset.sum_congr rfl fun d _ => amount_bar m c d]; rfl
theorem expect_dma : (rd (F := F) m).expect (cell c (some jk)) 0 = N := by
  unfold Schedule.expect Schedule.amountOf
  rw [duties_dma, Finset.sum_singleton, amount_dma]

/-- All the barrier hands over at once, -/
theorem rest_bar : bigSep ((rd (F := F) m).duties (cell c none) 0 \ ∅) (fun d => (rd (F := F) m).payload (cell c none) 0 d)
    = iprop(pay m c none false ∗ pay m c none true) := by
  rw [Finset.sdiff_empty, duties_bar, bigSep_univ_eq_bigSepL [false, true] (by decide) (by decide), bigSepL_cons_cons, bigSepL_singleton,
    payload_cell, payload_cell]
  rfl
/-- and all a transfer's semaphore does. -/
theorem rest_dma : bigSep ((rd (F := F) m).duties (cell c (some jk)) 0 \ ∅) (fun d => (rd (F := F) m).payload (cell c (some jk)) 0 d)
    = pay m c (some jk) false := by
  rw [Finset.sdiff_empty, duties_dma, bigSep_singleton, payload_cell]

end Table

/-! ## What a device still owes, and the order of waits -/

/-- The chunk transfers of a list, owed to group `j` of device `d`. -/
def owedTo (d : Dev nD) (j : Fin 4) (ks : List Chunk) : CellTallies nD τ sig Unit :=
  (ks.map fun k => tallyAt (cell d (some (j, k))) () N).sum

/-- What device `c` owes while the chunks `xs` are still to be sent to the first partner and `ys` to the second. -/
def owed (c : Dev nD) (xs ys : List Chunk) : CellTallies nD τ sig Unit := owedTo (devX c) 1 xs + owedTo (devY c) 3 ys

/-- All chunks, in the order they are sent. -/
abbrev chunks : List Chunk := [0, 1, 2, 3, 4, 5, 6, 7]

/-- At the launch: every chunk, and a unit on each partner's barrier. -/
def owedStart (c : Dev nD) : CellTallies nD τ sig Unit :=
  (owed c chunks chunks + tallyAt (cell (devY c) none) () 1) + tallyAt (cell (devX c) none) () 1

theorem owedTo_nil (d : Dev nD) (j : Fin 4) : owedTo d j [] = 0 := rfl
theorem owedTo_cons (d : Dev nD) (j : Fin 4) (k : Chunk) (ks : List Chunk) :
    owedTo d j (k :: ks) = tallyAt (cell d (some (j, k))) () N + owedTo d j ks := List.sum_cons

theorem owed_cons_x (c : Dev nD) (k : Chunk) (xs ys : List Chunk) :
    owed c (k :: xs) ys = owed c xs ys + tallyAt (cell (devX c) (some (1, k))) () N := by
  unfold owed; rw [owedTo_cons, add_assoc, add_comm]
theorem owed_cons_y (c : Dev nD) (k : Chunk) (xs ys : List Chunk) :
    owed c xs (k :: ys) = owed c xs ys + tallyAt (cell (devY c) (some (3, k))) () N := by
  unfold owed; rw [owedTo_cons, add_comm (tallyAt _ _ _), add_assoc]
theorem owed_nil (c : Dev nD) : owed c [] [] = 0 := add_zero 0

theorem pos_of_add {A B : CellTallies nD τ sig Unit} {g : GSem nD τ sig} {u : Unit} (h : 0 < (A + B) g u) : 0 < A g u ∨ 0 < B g u := by
  rw [Pi.add_apply, Finsupp.add_apply] at h; omega
theorem eq_of_tally_pos {g g' : GSem nD τ sig} {u : Unit} {n : ℕ} (h : 0 < tallyAt g' () n g u) : g = g' := by
  rw [tallyAt_apply] at h
  by_contra e
  rw [if_neg fun h' => e h'.1] at h
  exact Nat.lt_irrefl 0 h

theorem owedTo_pos {d : Dev nD} {j : Fin 4} {ks : List Chunk} {g : GSem nD τ sig} {u : Unit} (h : 0 < owedTo d j ks g u) :
    ∃ k, g = cell d (some (j, k)) := by
  induction ks with
  | nil => exact absurd h (Nat.lt_irrefl 0)
  | cons k ks ih =>
    rw [owedTo_cons] at h
    rcases pos_of_add h with h | h
    · exact ⟨k, eq_of_tally_pos h⟩
    · exact ih h

/-- Waits are ranked: the barrier, then chunks from the first partner, then sums from the second; every other semaphore
    is waited for only by the device that feeds it, and comes below them. -/
def rank : Option CK → ℕ
  | some none => 1
  | some (some (1, _)) => 2
  | some (some (3, _)) => 3
  | _ => 0

def L (g : GSem nD τ sig) : Finset Unit := if g.1.2 = .tc then {()} else ∅
def lv (g : GSem nD τ sig) (_ : Unit) : ℕ := rank (which g.2)

theorem L_of_ne (g : GSem nD τ sig) (h : g.1.2 ≠ .tc) : L g = ∅ := if_neg h

/-- A device may wait on a semaphore ranked below everything it owes. -/
theorem mayWait (c : Dev nD) (s : SemLoc sig) (n : ℕ) (hs : rank (which s) = n) (O : CellTallies nD τ sig Unit)
    (hO : ∀ g u, 0 < O g u → ∃ d k, g = cell d k ∧ n < rank (some k)) :
    (levAts L lv : sProp 𝕄) ⊢ MayWait (c : Thread nD τ) s () O :=
  MayOwe.of_cut (L := L) (lev := lv) n (fun p hp => by rw [Finset.mem_singleton.mp hp]; exact Finset.mem_singleton_self _)
    (fun g u hg => by obtain ⟨d, k, rfl, _⟩ := hO g u hg; exact Finset.mem_singleton_self _)
    (fun p hp => by rw [Finset.mem_singleton.mp hp]; exact le_of_eq hs)
    (fun g u hg => by obtain ⟨d, k, rfl, h⟩ := hO g u hg; show n < rank (which (csem k)); rw [which_csem]; exact h)

/-- While it owes chunks, a device may wait on any semaphore ranked at most as the barrier; -/
theorem mayWait_low (c : Dev nD) (s : SemLoc sig) (hs : rank (which s) ≤ 1) (xs ys : List Chunk) :
    (levAts L lv : sProp 𝕄) ⊢ MayWait (c : Thread nD τ) s () (owed c xs ys) :=
  mayWait c s _ rfl _ fun g u h => by
    rcases pos_of_add h with h | h
    · obtain ⟨k, rfl⟩ := owedTo_pos h; exact ⟨_, _, rfl, lt_of_le_of_lt hs (by decide : 1 < 2)⟩
    · obtain ⟨k, rfl⟩ := owedTo_pos h; exact ⟨_, _, rfl, lt_of_le_of_lt hs (by decide : 1 < 3)⟩
/-- owing only sums, it may wait for a chunk of the first partner; -/
theorem mayWait_mid (c : Dev nD) (k : Chunk) (ys : List Chunk) :
    (levAts L lv : sProp 𝕄) ⊢ MayWait (c : Thread nD τ) (csem (some (1, k))) () (owed c [] ys) :=
  mayWait c _ 2 (by rw [which_csem]; rfl) _ fun g u h => by
    rcases pos_of_add h with h | h
    · exact absurd h (Nat.lt_irrefl 0)
    · obtain ⟨k, rfl⟩ := owedTo_pos h; exact ⟨_, _, rfl, (by decide : 2 < 3)⟩
/-- and at the launch, on a semaphore outside the exchange. -/
theorem mayWait_start (c : Dev nD) (s : SemLoc sig) (hs : which s = none) :
    (levAts L lv : sProp 𝕄) ⊢ MayWait (c : Thread nD τ) s () (owedStart c) :=
  mayWait c s 0 (by rw [hs]; rfl) _ fun g u h => by
    rcases pos_of_add h with h | h
    · rcases pos_of_add h with h | h
      · rcases pos_of_add h with h | h
        · obtain ⟨k, rfl⟩ := owedTo_pos h; exact ⟨_, _, rfl, (by decide : 0 < 2)⟩
        · obtain ⟨k, rfl⟩ := owedTo_pos h; exact ⟨_, _, rfl, (by decide : 0 < 3)⟩
      · exact ⟨_, _, eq_of_tally_pos h, (by decide : 0 < 1)⟩
    · exact ⟨_, _, eq_of_tally_pos h, (by decide : 0 < 1)⟩

end Cert.Mesh

end
-- ==== Proof.Pieces.lean ====
/-
The buffers cut into the pieces the exchange moves, and what each copy leaves behind.
-/
module

public import proofs.«01_k».proof.Proof.Protocol

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Which elements a piece has -/

theorem mem_rows {k : Chunk} {i : S256x256.Idx} : i ∈ (rowsR k).set ↔ 32 * k.val ≤ (i 0).val ∧ (i 0).val < 32 * k.val + 32 := by
  rw [Rect.mem_set_unit, Fin.forall_fin_two]
  have h1 : (i 1).val < 256 := (i 1).isLt
  show ((32 * k.val ≤ (i 0).val ∧ (i 0).val < 32 * k.val + 32) ∧ (0 ≤ (i 1).val ∧ (i 1).val < 0 + 256)) ↔ _
  omega

theorem mem_out {d : Dev nD} {k : Chunk} {i : S256x512.Idx} : i ∈ (outR d k).set ↔
    (32 * k.val ≤ (i 0).val ∧ (i 0).val < 32 * k.val + 32) ∧ 256 * (d.val % 2) ≤ (i 1).val ∧ (i 1).val < 256 * (d.val % 2) + 256 := by
  rw [Rect.mem_set_unit, Fin.forall_fin_two, outOff_eq]
  rfl

/-- The two halves of the own-rows buffer, each four chunks. -/
abbrev lo : List Chunk := [0, 1, 2, 3]
abbrev hi : List Chunk := [4, 5, 6, 7]

theorem mem_lo : ∀ k : Chunk, k ∈ lo.toFinset ↔ k.val < 4 := by decide
theorem mem_hi : ∀ k : Chunk, k ∈ hi.toFinset ↔ 4 ≤ k.val := by decide
theorem chunks_univ : chunks.toFinset = Finset.univ := by decide

theorem top_set : xTop.view.set = lo.toFinset.biUnion fun k => (xC k).view.set := by
  ext i
  rw [Finset.mem_biUnion]; simp only [show ∀ k, (xC k).view.set = (rowsR k).set from fun k => View.set_slice_whole _ _]
  rw [show xTop.view.set = (Rect.unit (s := S256x256) ![0, 0] S128x256.size inb_S256x256_S128x256_0_0).set from View.set_slice_whole _ _,
    Rect.mem_set_unit, Fin.forall_fin_two]
  have h1 : (i 1).val < 256 := (i 1).isLt
  constructor
  · rintro ⟨⟨_, h⟩, _⟩
    have h : (i 0).val < 0 + 128 := h
    exact ⟨⟨(i 0).val / 32, by omega⟩, (mem_lo _).mpr (by show (i 0).val / 32 < 4; omega),
      mem_rows.mpr (by show 32 * ((i 0).val / 32) ≤ _ ∧ _ < 32 * ((i 0).val / 32) + 32; omega)⟩
  · rintro ⟨k, hk, h⟩
    have hk := (mem_lo k).mp hk; have h := mem_rows.mp h
    show (0 ≤ (i 0).val ∧ (i 0).val < 0 + 128) ∧ (0 ≤ (i 1).val ∧ (i 1).val < 0 + 256)
    omega

theorem bot_set : xBot.view.set = hi.toFinset.biUnion fun k => (xC k).view.set := by
  ext i
  rw [Finset.mem_biUnion]; simp only [show ∀ k, (xC k).view.set = (rowsR k).set from fun k => View.set_slice_whole _ _]
  rw [show xBot.view.set = (Rect.unit (s := S256x256) ![128, 0] S128x256.size inb_S256x256_S128x256_128_0).set from View.set_slice_whole _ _,
    Rect.mem_set_unit, Fin.forall_fin_two]
  have h0 : (i 0).val < 256 := (i 0).isLt
  have h1 : (i 1).val < 256 := (i 1).isLt
  constructor
  · rintro ⟨⟨h, _⟩, _⟩
    have h : 128 ≤ (i 0).val := h
    exact ⟨⟨(i 0).val / 32, by omega⟩, (mem_hi _).mpr (by show 4 ≤ (i 0).val / 32; omega),
      mem_rows.mpr (by show 32 * ((i 0).val / 32) ≤ _ ∧ _ < 32 * ((i 0).val / 32) + 32; omega)⟩
  · rintro ⟨k, hk, h⟩
    have hk := (mem_hi k).mp hk; have h := mem_rows.mp h; have := k.isLt
    show (128 ≤ (i 0).val ∧ (i 0).val < 128 + 128) ∧ (0 ≤ (i 1).val ∧ (i 1).val < 0 + 256)
    omega

theorem rows_disjoint {k k' : Chunk} (h : k ≠ k') : Disjoint (rowsR k).set (rowsR k').set :=
  Finset.disjoint_left.mpr fun i hi hi' => by
    have := mem_rows.mp hi; have := mem_rows.mp hi'; exact h (Fin.ext (by omega))

theorem rows_cover : (Finset.univ.biUnion fun k : Chunk => (rowsR k).set) = Finset.univ := by
  ext i
  simp only [Finset.mem_biUnion, Finset.mem_univ, true_and, iff_true]
  have h0 : (i 0).val < 256 := (i 0).isLt
  exact ⟨⟨(i 0).val / 32, by omega⟩, mem_rows.mpr (by show 32 * ((i 0).val / 32) ≤ _ ∧ _ < 32 * ((i 0).val / 32) + 32; omega)⟩

theorem out_disjoint (d : Dev nD) {k k' : Chunk} (h : k ≠ k') : Disjoint (outR d k).set (outR d k').set :=
  Finset.disjoint_left.mpr fun i hi hi' => by
    have := mem_out.mp hi; have := mem_out.mp hi'; exact h (Fin.ext (by omega))

/-- Device `d`'s columns of the result. -/
def colSet (d : Dev nD) : Finset S256x512.Idx := Finset.univ.biUnion fun k : Chunk => (outR d k).set

theorem mem_colSet {d : Dev nD} {i : S256x512.Idx} : i ∈ colSet d ↔ 256 * (d.val % 2) ≤ (i 1).val ∧ (i 1).val < 256 * (d.val % 2) + 256 := by
  unfold colSet
  simp only [Finset.mem_biUnion, Finset.mem_univ, true_and]
  have h0 : (i 0).val < 256 := (i 0).isLt
  constructor
  · rintro ⟨k, h⟩; exact (mem_out.mp h).2
  · intro h
    exact ⟨⟨(i 0).val / 32, by omega⟩, mem_out.mpr ⟨by show 32 * ((i 0).val / 32) ≤ _ ∧ _ < 32 * ((i 0).val / 32) + 32; omega, h⟩⟩

theorem devY_mod : ∀ c : Dev nD, (devY c).val % 2 = 1 - c.val % 2 := by decide +kernel

theorem col_disjoint (c : Dev nD) : Disjoint (colSet c) (colSet (devY c)) :=
  Finset.disjoint_left.mpr fun i hi hi' => by
    have := mem_colSet.mp hi; have := mem_colSet.mp hi'; have := devY_mod c; omega

theorem col_cover (c : Dev nD) : colSet c ∪ colSet (devY c) = Finset.univ := by
  ext i
  have h1 : (i 1).val < 512 := (i 1).isLt
  have hy := devY_mod c
  rw [Finset.mem_union, mem_colSet, mem_colSet, iff_true_right (Finset.mem_univ i)]
  generalize devY c = y at hy ⊢
  omega

/-! ## Buffers and their pieces -/

variable (c : Dev nD)

theorem r_pieces (f : S256x256.Idx → Elt F .f32) :
    (((c : Thread nD τ).loc cc0_scratch1) ↦{fullShare} f : sProp 𝕄) = bigSep Finset.univ fun k : Chunk => rPts c k f := by
  unfold rPts
  simp only [View.set_slice_whole]
  rw [← rows_cover]
  exact pointsTo_biUnion (ℓ := (c : Thread nD τ).loc cc0_scratch1) _ _ fun k _ k' _ h => rows_disjoint h

/-- The upper and lower halves of the own-rows buffer. -/
def topPts (f : S256x256.Idx → Elt F .f32) : sProp 𝕄 := xTop.view.loc (c : Thread nD τ) ↦[xTop.view.set]{fullShare} f
def botPts (f : S256x256.Idx → Elt F .f32) : sProp 𝕄 := xBot.view.loc (c : Thread nD τ) ↦[xBot.view.set]{fullShare} f

theorem top_pieces (f : S256x256.Idx → Elt F .f32) : (topPts c f : sProp 𝕄) = bigSep lo.toFinset fun k => xPts c k fullShare f := by
  unfold topPts xPts
  rw [top_set]
  exact pointsTo_biUnion (ℓ := (c : Thread nD τ).loc cc0_scratch0) _ _ fun k _ k' _ h => by
    rw [View.set_slice_whole, View.set_slice_whole]; exact rows_disjoint h
theorem bot_pieces (f : S256x256.Idx → Elt F .f32) : (botPts c f : sProp 𝕄) = bigSep hi.toFinset fun k => xPts c k fullShare f := by
  unfold botPts xPts
  rw [bot_set]
  exact pointsTo_biUnion (ℓ := (c : Thread nD τ).loc cc0_scratch0) _ _ fun k _ k' _ h => by
    rw [View.set_slice_whole, View.set_slice_whole]; exact rows_disjoint h

theorem lo_hi : lo.toFinset ∪ hi.toFinset = (Finset.univ : Finset Chunk) := by decide
theorem lo_hi_disjoint : Disjoint lo.toFinset hi.toFinset := by decide

/-- A conjunction over all chunks, as one over each half. -/
theorem all_chunks (Φ : Chunk → sProp 𝕄) : bigSep Finset.univ Φ = iprop(bigSep lo.toFinset Φ ∗ bigSep hi.toFinset Φ) := by
  rw [← lo_hi]; exact BI.bigSep_union lo_hi_disjoint

theorem x_pieces (f : S256x256.Idx → Elt F .f32) :
    (((c : Thread nD τ).loc cc0_scratch0) ↦{fullShare} f : sProp 𝕄) = bigSep Finset.univ fun k : Chunk => xPts c k fullShare f := by
  unfold xPts
  simp only [View.set_slice_whole]
  rw [← rows_cover]
  exact pointsTo_biUnion (ℓ := (c : Thread nD τ).loc cc0_scratch0) _ _ fun k _ k' _ h => rows_disjoint h

theorem x_halves (f : S256x256.Idx → Elt F .f32) :
    (((c : Thread nD τ).loc cc0_scratch0) ↦{fullShare} f : sProp 𝕄) = iprop(topPts c f ∗ botPts c f) := by
  rw [x_pieces, all_chunks, top_pieces, bot_pieces]

/-- A chunk of own rows, as a part to lend to the transfer and a part to keep for the sum. -/
theorem x_share (k : Chunk) (f : S256x256.Idx → Elt F .f32) :
    (xPts c k fullShare f : sProp 𝕄) ⊣⊢ iprop(xPts c k fullShare.left f ∗ xPts c k fullShare.right f) :=
  pointsTo_share (PosShare.mem_left_op_right fullShare)

/-- The result as the device's own columns and its second partner's. -/
theorem o_pieces (f : S256x512.Idx → Elt F .f32) :
    (((c : Thread nD τ).loc cc0_stg0_0) ↦{fullShare} f : sProp 𝕄)
      = iprop((bigSep Finset.univ fun k : Chunk => oPts c c k f) ∗ bigSep Finset.univ fun k : Chunk => oPts c (devY c) k f) := by
  have h (d : Dev nD) : (((c : Thread nD τ).loc cc0_stg0_0) ↦[colSet d]{fullShare} f : sProp 𝕄) = bigSep Finset.univ fun k : Chunk => oPts c d k f := by
    unfold oPts colSet
    simp only [View.set_slice_whole]
    exact pointsTo_biUnion (ℓ := (c : Thread nD τ).loc cc0_stg0_0) _ _ fun k _ k' _ h => out_disjoint d h
  rw [← h, ← h, ← col_cover c]
  have h2 := pointsTo_union (ℓ := (c : Thread nD τ).loc cc0_stg0_0) (q := fullShare) (f := f) (Ix := Unit) (Name := ℕ) (U := UU) (Lvl := ℕ) (col_disjoint c)
  exact BI.equiv_iff.mp ⟨h2.1, h2.2⟩

/-! ## The input block, read by two copies at once -/

variable (m : (ℓ : Loc nD τ sig) → Buf (Elt F) ℓ)

/-- What a copy out of the input block reads, and the rest of the block at that share. -/
def topArg (q : PosShare TreeShare) : sProp 𝕄 := argTop.view.loc (c : Thread nD τ) ↦[argTop.view.set]{q} m ((c : Thread nD τ).loc main_arg0)
def botArg (q : PosShare TreeShare) : sProp 𝕄 := argBot.view.loc (c : Thread nD τ) ↦[argBot.view.set]{q} m ((c : Thread nD τ).loc main_arg0)
def topRest (q : PosShare TreeShare) : sProp 𝕄 := argTop.view.loc (c : Thread nD τ) ↦[Finset.univ \ argTop.view.set]{q} m ((c : Thread nD τ).loc main_arg0)
def botRest (q : PosShare TreeShare) : sProp 𝕄 := argBot.view.loc (c : Thread nD τ) ↦[Finset.univ \ argBot.view.set]{q} m ((c : Thread nD τ).loc main_arg0)

theorem arg_pieces : (((c : Thread nD τ).loc main_arg0) ↦{fullShare} m ((c : Thread nD τ).loc main_arg0) : sProp 𝕄)
    ⊣⊢ iprop((topArg c m fullShare.left ∗ topRest c m fullShare.left) ∗ (botArg c m fullShare.right ∗ botRest c m fullShare.right)) :=
  (pointsTo_share (PosShare.mem_left_op_right fullShare)).trans
    (sep_congr (pointsTo_split_subset (Finset.subset_univ _)) (pointsTo_split_subset (Finset.subset_univ _)))

/-! ## What the copies leave -/

omit [FloatOps F] in
/-- Rows copied to the same rows of another buffer. -/
theorem rows_landed (k : Chunk) (fd g : S256x256.Idx → Elt F .f32) :
    ∀ i ∈ (rC k).view.set, (rC k).view.write (Elt F) fd ((xC k).view.read (Elt F) g) Finset.univ i = g i := by
  intro i hi
  obtain ⟨x, _, rfl⟩ := Finset.mem_map.mp hi
  rw [View.write_emb_of_mem _ _ (Finset.mem_univ x), View.read_apply, cast_cast]; rfl

omit [FloatOps F] in
/-- A piece of the result copied to the same piece of another result. -/
theorem out_landed (d : Dev nD) (k : Chunk) (fd g : S256x512.Idx → Elt F .f32) :
    ∀ i ∈ (oC d k).view.set, (oC d k).view.write (Elt F) fd ((oC d k).view.read (Elt F) g) Finset.univ i = g i := by
  intro i hi
  obtain ⟨x, _, rfl⟩ := Finset.mem_map.mp hi
  rw [View.write_emb_of_mem _ _ (Finset.mem_univ x), View.read_apply, cast_cast]; rfl

/-- The device's own columns are filled by itself. -/
theorem filler_own : ∀ c : Dev nD, 2 * (c.val / 2) + c.val % 2 = c.val := by decide

/-- The sum stored at chunk `k` of a device's own columns is what the result holds there. -/
theorem sum_stored (k : Chunk) (fd : S256x512.Idx → Elt F .f32) :
    ∀ i ∈ (oC c k).view.set, (oM.access (outR c k) : View sig .tc _ _ _).write (Elt F) fd
      (k0_pay1 (xM.view.readAt (Elt F) (rowsR k).toLoadRect (ownX m c)) (rM.view.readAt (Elt F) (rowsR k).toLoadRect (ownX m (devX c)))) Finset.univ i
        = result m c i := by
  intro i hi
  obtain ⟨x, _, rfl⟩ := Finset.mem_map.mp hi
  refine (View.write_emb_of_mem (v := oM.access (outR c k)) _ _ (Finset.mem_univ x)).trans ?_
  show k0_pay1 _ _ x = sumX m (filler c ((outR c k).emb x 1)) (ix2 ((outR c k).emb x 0) (inBlock ((outR c k).emb x 1)))
  have e0 : ((outR c k).emb x 0).val = 32 * k.val + (x 0).val := by
    show outOff c k 0 + 1 * (x 0).val = _
    rw [outOff_eq]; show 32 * k.val + 1 * (x 0).val = _; omega
  have e1 : ((outR c k).emb x 1).val = 256 * (c.val % 2) + (x 1).val := by
    show outOff c k 1 + 1 * (x 1).val = _
    rw [outOff_eq]; show 256 * (c.val % 2) + 1 * (x 1).val = _; omega
  have hx : (x 1).val < 256 := (x 1).isLt
  have hf : filler c ((outR c k).emb x 1) = c := Fin.ext (by
    show 2 * (c.val / 2) + ((outR c k).emb x 1).val / 256 = c.val
    have := filler_own c; rw [e1]; omega)
  have hi : (ix2 ((outR c k).emb x 0) (inBlock ((outR c k).emb x 1)) : S256x256.Idx) = (rowsR k).emb x := by
    funext a
    fin_cases a
    · exact Fin.ext (e0.trans (by show _ = 32 * k.val + 1 * (x 0).val; omega))
    · exact Fin.ext (by show ((outR c k).emb x 1).val % 256 = 0 + 1 * (x 1).val; rw [e1]; omega)
  rw [hf, hi]
  rfl

omit [FloatOps F] in
/-- An element `x` of 128 rows, in the input block's 128 rows from row `o` on. -/
theorem half_index (o : ℕ) (h : ∀ a, (![0, o, 0] : Fin 3 → ℕ) a + S1x128x256.size a ≤ S1x256x256.size a)
    (h' : ∀ a, (![o, 0] : Fin 2 → ℕ) a + S128x256.size a ≤ S256x256.size a) (x : S128x256.Idx) :
    (Rect.unit (s := S1x256x256) ![0, o, 0] S1x128x256.size h).emb (Shape.reshapeEquiv squeezes_S1x128x256_S128x256.numel_eq x)
      = ix3 (0 : Fin 1) ((Rect.unit (s := S256x256) ![o, 0] S128x256.size h').emb x 0) ((Rect.unit (s := S256x256) ![o, 0] S128x256.size h').emb x 1) := by
  rw [show Shape.reshapeEquiv squeezes_S1x128x256_S128x256.numel_eq x = ix3 (0 : Fin 1) (x 0) (x 1) from
    (congrArg _ (eq_ix2 (n0 := 128) (n1 := 256) x)).trans (reshapeEquiv_ix2_1ab (a := 128) (b := 256) squeezes_S1x128x256_S128x256.numel_eq (x 0) (x 1))]
  funext a
  fin_cases a <;> exact Fin.ext rfl

/-- The halves of the input block, copied, are the device's own rows. -/
theorem top_landed (fd : S256x256.Idx → Elt F .f32) :
    ∀ i ∈ xTop.view.set, xTop.view.write (Elt F) fd (argTop.view.read (Elt F) (m ((c : Thread nD τ).loc main_arg0))) Finset.univ i = ownX m c i := by
  intro i hi
  obtain ⟨x, _, rfl⟩ := Finset.mem_map.mp hi
  rw [View.write_emb_of_mem _ _ (Finset.mem_univ x), View.read_apply, cast_cast]
  exact congrArg (m ((c : Thread nD τ).loc main_arg0)) (half_index 0 _ _ x)
theorem bot_landed (fd : S256x256.Idx → Elt F .f32) :
    ∀ i ∈ xBot.view.set, xBot.view.write (Elt F) fd (argBot.view.read (Elt F) (m ((c : Thread nD τ).loc main_arg0))) Finset.univ i = ownX m c i := by
  intro i hi
  obtain ⟨x, _, rfl⟩ := Finset.mem_map.mp hi
  rw [View.write_emb_of_mem _ _ (Finset.mem_univ x), View.read_apply, cast_cast]
  exact congrArg (m ((c : Thread nD τ).loc main_arg0)) (half_index 128 _ _ x)

/-- So the halves of the own-rows buffer are held at those contents. -/
theorem top_filled (fd : S256x256.Idx → Elt F .f32) :
    (xTop.view.loc (c : Thread nD τ) ↦[xTop.view.set]{fullShare}
      xTop.view.write (Elt F) fd (argTop.view.read (Elt F) (m ((c : Thread nD τ).loc main_arg0))) Finset.univ : sProp 𝕄) = topPts c (ownX m c) :=
  pointsTo_congr (top_landed c m fd)
theorem bot_filled (fd : S256x256.Idx → Elt F .f32) :
    (xBot.view.loc (c : Thread nD τ) ↦[xBot.view.set]{fullShare}
      xBot.view.write (Elt F) fd (argBot.view.read (Elt F) (m ((c : Thread nD τ).loc main_arg0))) Finset.univ : sProp 𝕄) = botPts c (ownX m c) :=
  pointsTo_congr (bot_landed c m fd)

end Cert.Mesh

end
-- ==== Proof.Steps.lean ====
/-
Each stretch of the exchange, proved once for a chunk `k` and carried through a list of chunks.
-/
module

public import proofs.«01_k».proof.Proof.Pieces

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `K` and ends with `Kt`. -/
abbrev runs (c : Dev nD) (K : P F) (Kt : PUnit → sProp 𝕄) : sProp 𝕄 :=
  wp frame (wpE (defs₀ (F := F)) 𝒱₀ (c : Thread nD τ) none) Set.univ K Kt

variable (m : (ℓ : Loc nD τ sig) → Buf (Elt F) ℓ) (κ : Dev nD × CK → ℕ)

/-- What every device knows: all the semaphores' invariants, under the names `κ`, and that each has begun its round. -/
def records : sProp 𝕄 :=
  iprop((bigSep Finset.univ fun x : Dev nD × CK => cellInv ER (rd m) (κ x) (cell x.1 x.2))
    ∗ bigSep Finset.univ fun x : Dev nD × CK => reached ER (cell x.1 x.2) 0)

instance records_persistent : BI.Persistent (records m κ) := by unfold records; infer_instance

theorem inv_of (c : Dev nD) (k : CK) : records m κ ⊢ cellInv ER (rd m) (κ (c, k)) (cell c k) := by
  unfold records; exact sep_elim_left.trans (BI.bigSep_elim (Finset.mem_univ (c, k)))
theorem reached_of (c : Dev nD) (k : CK) : records m κ ⊢ reached ER (cell c k) 0 := by
  unfold records; exact sep_elim_right.trans (BI.bigSep_elim (Finset.mem_univ (c, k)))

/-- Device `c` between two steps, still owing `O`. -/
def st (c : Dev nD) (O : CellTallies nD τ sig Unit) : sProp 𝕄 :=
  iprop(records m κ ∗ levAts L lv ∗ ∃ W, owes (c : Thread nD τ) O W)

variable (c : Dev nD)

/-- A loop over chunks: each chunk's step turns its share `A k` of what is given into `B k` and the state before it
    into the state after it. -/
theorem wp_loop (Kt : PUnit → sProp 𝕄) (step : Chunk → P F → P F) (S : List Chunk → sProp 𝕄) (A B : Chunk → sProp 𝕄)
    (hstep : ∀ k ks K, iprop(S (k :: ks) ∗ A k) ⊢ iprop(((S ks ∗ B k) -∗ runs c K Kt) -∗ runs c (step k K) Kt)) :
    ∀ (ks : List Chunk) (_ : ks.Nodup) (K : P F), iprop(S ks ∗ bigSep ks.toFinset A)
      ⊢ iprop(((S [] ∗ bigSep ks.toFinset B) -∗ runs c K Kt) -∗ runs c (loop step ks K) Kt) := by
  intro ks
  induction ks with
  | nil =>
    intro _ K
    show iprop(S [] ∗ bigSep ∅ A) ⊢ iprop(((S [] ∗ bigSep ∅ B) -∗ runs c K Kt) -∗ runs c K Kt)
    rw [bigSep_empty, bigSep_empty]
    iintro H Hk
    iapply Hk; iexact H
  | cons k ks ih =>
    intro hn K
    have hk : k ∉ ks.toFinset := fun h => (List.nodup_cons.mp hn).1 (List.mem_toFinset.mp h)
    show _ ⊢ iprop(_ -∗ runs c (step k (loop step ks K)) Kt)
    rw [List.toFinset_cons, SparseCore.bigSep_insert' hk, SparseCore.bigSep_insert' hk]
    iintro ⟨HS, HA, HAs⟩ Hk
    iapply (hstep k ks (loop step ks K)) $$ [HS HA]
    · isplitl [HS] <;> iassumption
    iintro ⟨HS, HB⟩
    iapply (ih (List.nodup_cons.mp hn).2 K) $$ [HS HAs]
    · isplitl [HS] <;> iassumption
    iintro ⟨HS, HBs⟩
    iapply Hk
    isplitl [HS]; · iexact HS
    isplitl [HB] <;> iassumption

/-- Waiting on a chunk's semaphore brings what it hands over. -/
theorem wp_take (Kt : PUnit → sProp 𝕄) (jk : Fin 4 × Chunk) {s s' : Shape} {e e' : EltTy} {sp sp' : Space}
    {src : Memref sig .tc sp' s' e'} {dst : Memref sig .tc sp s e} {hsrc : src.view.WordExact} {hdst : dst.view.WordExact}
    (hN : dst.view.dmaCredit = N) (O : CellTallies nD τ sig Unit)
    (hO : (levAts L lv : sProp 𝕄) ⊢ MayWait (c : Thread nD τ) (csem (some jk)) () O) (K : P F) :
    iprop(st m κ c O ∗ cred (tallyAt (cell c (some jk)) () N) ∗ atPos ER (cell c (some jk)) 0 ∅ 0)
      ⊢ iprop(((st m κ c O ∗ atPos ER (cell c (some jk)) 1 ∅ 0 ∗ pay m c (some jk) false) -∗ runs c K Kt)
          -∗ runs c (.op (.waitDma2 (semAt (semArr jk.1) jk.2) src dst hsrc hdst) fun _ => K) Kt) := by
  unfold st
  iintro ⟨⟨#HR, #Hlev, %W, HO⟩, Hc, Hat⟩ Hk
  rw [← hN]
  iapply (Rounds.wp_wait_rest_token 𝒱₀ ER (rd m) (c : Thread nD τ) none (κ := κ (c, some jk))
      (wpE_waitDma2_eq 𝒱₀ (c : Thread nD τ) none Set.univ) (Set.mem_univ _) () (O := O) (W := W) (R := 0) (m := 0) (T := ∅)
      (by rw [Nat.zero_add]; exact hN.trans (expect_dma m c jk).symm)) $$ [Hc HO Hat]
  · isplitr; · iapply (inv_of m κ c (some jk)); iexact HR
    isplitl [Hc]; · iexact Hc
    isplitl [HO]; · iexact HO
    isplitr; · iapply hO; iexact Hlev
    iexact Hat
  iintro ⟨HO, Hat, -, Hp⟩
  iapply Hk
  isplitl [HO]
  · isplitr; · iexact HR
    isplitr; · iexact Hlev
    iexists _; iexact HO
  isplitl [Hat]; · iexact Hat
  iapply (Entails.of_eq (rest_dma m c jk)); iexact Hp

/-! ## Sending own rows -/

def sendA (k : Chunk) : sProp 𝕄 :=
  iprop(xPts c k fullShare (ownX m c) ∗ (∃ f, rPts (devX c) k f)
    ∗ dutyTok ER (cell c (some (0, k))) 0 false ∗ dutyTok ER (cell (devX c) (some (1, k))) 0 false)
def sendB (k : Chunk) : sProp 𝕄 :=
  iprop(xPts c k fullShare.right (ownX m c) ∗ cred (tallyAt (cell c (some (0, k))) () N))

/-- Half of a chunk's share goes with the transfer; the partner's receive buffer is filled for it. -/
theorem step_send (Kt : PUnit → sProp 𝕄) (k : Chunk) (xs ys : List Chunk) (K : P F) :
    iprop(st m κ c (owed c (k :: xs) ys) ∗ sendA m c k)
      ⊢ iprop(((st m κ c (owed c xs ys) ∗ sendB m c k) -∗ runs c K Kt) -∗ runs c (sendX c k K) Kt) := by
  unfold st sendA sendB sendX
  iintro ⟨⟨#HR, #Hlev, %W, HO⟩, Hx, ⟨%f, Hr⟩, Ht, Ht'⟩ Hk
  ihave Hx := (x_share c k (ownX m c)).1 $$ Hx
  icases Hx with ⟨Hl, Hr'⟩
  iapply (Rounds.wp_send_pointsTo 𝒱₀ ER (rd m) (c : Thread nD τ) none (c' := (devX c : Thread nD τ))
      (κ₁ := κ (c, some (0, k))) (κ₂ := κ (devX c, some (1, k)))
      (r₁ := 0) (r₂ := 0) (d₁ := false) (d₂ := false) (src := xC k) (dst := rC k) (sS := csem (some (0, k))) (sem := csem (some (1, k)))
      (q := fullShare.left) (fs := ownX m c) (fd := f)
      (by rw [duties_dma]; exact Finset.mem_singleton_self _) (by rw [duties_dma]; exact Finset.mem_singleton_self _)
      () () N rfl (amount_dma m c (0, k) false) (amount_dma m (devX c) (1, k) false) (owed c xs ys) (owed_cons_x c k xs ys) (W := W)
      (by rw [payload_cell]; exact Entails.of_eq (by unfold pay xPts; rfl))
      (by rw [payload_cell]; exact Entails.of_eq (by
            unfold pay rPts; rw [devX_devX]; exact pointsTo_congr (rows_landed k _ _)))) $$ [Hl Hr HO Ht Ht']
  · isplitr; · iapply (inv_of m κ c (some (0, k))); iexact HR
    isplitr; · iapply (inv_of m κ (devX c) (some (1, k))); iexact HR
    isplitl [Hl]; · unfold xPts; iexact Hl
    isplitl [Hr]; · unfold rPts; iexact Hr
    isplitl [HO]; · iexact HO
    isplitl [Ht]; · iexact Ht
    isplitr; · iapply (reached_of m κ c (some (0, k))); iexact HR
    isplitl [Ht']; · iexact Ht'
    iapply (reached_of m κ (devX c) (some (1, k))); iexact HR
  iintro ⟨Hc, HO⟩
  iapply Hk
  isplitl [HO]
  · isplitr; · iexact HR
    isplitr; · iexact Hlev
    iexists W; iexact HO
  isplitl [Hr'] <;> iassumption

/-! ## Summing, and sending the sum -/

def addA (k : Chunk) : sProp 𝕄 :=
  iprop((cred (tallyAt (cell c (some (1, k))) () N) ∗ atPos ER (cell c (some (1, k))) 0 ∅ 0) ∗ xPts c k fullShare.right (ownX m c)
    ∗ (∃ f, oPts c c k f) ∗ (∃ f, oPts (devY c) c k f)
    ∗ dutyTok ER (cell c (some (2, k))) 0 false ∗ dutyTok ER (cell (devY c) (some (3, k))) 0 false)
def addB (k : Chunk) : sProp 𝕄 :=
  iprop(atPos ER (cell c (some (1, k))) 1 ∅ 0 ∗ xPts c k fullShare.right (ownX m c) ∗ rPts c k (ownX m (devX c))
    ∗ cred (tallyAt (cell c (some (2, k))) () N))

/-- The partner's chunk arrives; the sum of the two chunks is stored in the result and sent to the second partner. -/
theorem step_add (Kt : PUnit → sProp 𝕄) (k : Chunk) (ys : List Chunk) (K : P F) :
    iprop(st m κ c (owed c [] (k :: ys)) ∗ addA m c k)
      ⊢ iprop(((st m κ c (owed c [] ys) ∗ addB m c k) -∗ runs c K Kt) -∗ runs c (addSend c k K) Kt) := by
  unfold addA addB addSend
  iintro ⟨Hs, ⟨Hc, Hat⟩, Hx, ⟨%f, Ho⟩, ⟨%g, Ho'⟩, Ht, Ht'⟩ Hk
  iapply (wp_take m κ c Kt (1, k) (src := xC k) (dst := rC k) rfl (owed c [] (k :: ys)) (mayWait_mid c k _)) $$ [Hs Hc Hat]
  · isplitl [Hs]; · iexact Hs
    isplitl [Hc] <;> iassumption
  iintro ⟨Hs, Hat, Hp⟩
  ihave Hr := (Entails.of_eq (show pay m c (some (1, k)) false = rPts c k (ownX m (devX c)) from rfl)) $$ Hp
  unfold xPts rPts oPts
  iapply (wp_load 𝒱₀ (c : Thread nD τ) none Set.univ (m := xM) (r := (rowsR k).toLoadRect) (S := (xC k).view.set) (f := ownX m c) (q := fullShare.right)
    (Finset.Subset.antisymm_iff.mp (View.set_slice _ _)).2) $$ Hx; iintro Hx
  iapply (wp_load 𝒱₀ (c : Thread nD τ) none Set.univ (m := rM) (r := (rowsR k).toLoadRect) (S := (rC k).view.set) (f := ownX m (devX c)) (q := fullShare)
    (Finset.Subset.antisymm_iff.mp (View.set_slice _ _)).2) $$ Hr; iintro Hr
  iapply (wp_load 𝒱₀ (c : Thread nD τ) none Set.univ (m := oM) (r := (outR c k).toLoadRect) (S := (oC c k).view.set) (f := f) (q := fullShare)
    (Finset.Subset.antisymm_iff.mp (View.set_slice _ _)).2) $$ Ho; iintro Ho
  iapply (wp_store 𝒱₀ (c : Thread nD τ) none Set.univ (m := oM) (r := outR c k) (Mk := Finset.univ) (S := (oC c k).view.set) (f := f)
    (Finset.Subset.refl _)) $$ Ho; iintro Ho
  ihave Ho := (Entails.of_eq (pointsTo_congr (sum_stored c m k f))) $$ Ho
  unfold st
  icases Hs with ⟨#HR, #Hlev, %W, HO⟩
  iapply (Rounds.wp_send_pointsTo 𝒱₀ ER (rd m) (c : Thread nD τ) none (c' := (devY c : Thread nD τ))
      (κ₁ := κ (c, some (2, k))) (κ₂ := κ (devY c, some (3, k)))
      (r₁ := 0) (r₂ := 0) (d₁ := false) (d₂ := false) (src := oC c k) (dst := oC c k) (sS := csem (some (2, k))) (sem := csem (some (3, k)))
      (q := fullShare) (fs := result m c) (fd := g)
      (by rw [duties_dma]; exact Finset.mem_singleton_self _) (by rw [duties_dma]; exact Finset.mem_singleton_self _)
      () () N rfl (amount_dma m c (2, k) false) (amount_dma m (devY c) (3, k) false) (owed c [] ys) (owed_cons_y c k [] ys) (W := W)
      (by rw [payload_cell]; exact Entails.of_eq (by unfold pay oPts; rfl))
      (by rw [payload_cell]; exact Entails.of_eq (by
            unfold pay oPts; rw [devY_devY, result_devY]; exact pointsTo_congr (out_landed c k _ _)))) $$ [Ho Ho' HO Ht Ht']
  · isplitr; · iapply (inv_of m κ c (some (2, k))); iexact HR
    isplitr; · iapply (inv_of m κ (devY c) (some (3, k))); iexact HR
    isplitl [Ho]; · iexact Ho
    isplitl [Ho']; · iexact Ho'
    isplitl [HO]; · iexact HO
    isplitl [Ht]; · iexact Ht
    isplitr; · iapply (reached_of m κ c (some (2, k))); iexact HR
    isplitl [Ht']; · iexact Ht'
    iapply (reached_of m κ (devY c) (some (3, k))); iexact HR
  iintro ⟨Hc, HO⟩
  iapply Hk
  isplitl [HO]
  · isplitr; · iexact HR
    isplitr; · iexact Hlev
    iexists W; iexact HO
  isplitl [Hat]; · iexact Hat
  isplitl [Hx]; · iexact Hx
  isplitl [Hr] <;> iassumption

/-! ## Receiving sums, and the end of the sends -/

def recvA (k : Chunk) : sProp 𝕄 := iprop(cred (tallyAt (cell c (some (3, k))) () N) ∗ atPos ER (cell c (some (3, k))) 0 ∅ 0)
def recvB (k : Chunk) : sProp 𝕄 := iprop(atPos ER (cell c (some (3, k))) 1 ∅ 0 ∗ oPts c (devY c) k (result m c))

/-- The second partner's sum arrives in its columns. -/
theorem step_recv (Kt : PUnit → sProp 𝕄) (k : Chunk) (K : P F) :
    iprop(st m κ c 0 ∗ recvA c k) ⊢ iprop(((st m κ c 0 ∗ recvB m c k) -∗ runs c K Kt) -∗ runs c (recvY c k K) Kt) := by
  unfold recvA recvB recvY
  iintro H Hk
  iapply (wp_take m κ c Kt (3, k) (src := oC c k) (dst := oC c k) rfl 0 (by rw [MayWait_zero]; iintro -; iempintro)) $$ H
  iintro H
  iapply Hk; iexact H

def drainA (k : Chunk) : sProp 𝕄 :=
  iprop((cred (tallyAt (cell c (some (0, k))) () N) ∗ atPos ER (cell c (some (0, k))) 0 ∅ 0)
    ∗ (cred (tallyAt (cell c (some (2, k))) () N) ∗ atPos ER (cell c (some (2, k))) 0 ∅ 0))
def drainB (k : Chunk) : sProp 𝕄 :=
  iprop((atPos ER (cell c (some (0, k))) 1 ∅ 0 ∗ xPts c k fullShare.left (ownX m c)) ∗ (atPos ER (cell c (some (2, k))) 1 ∅ 0 ∗ oPts c c k (result m c)))

/-- What the two transfers of a chunk read comes back. -/
theorem step_drain (Kt : PUnit → sProp 𝕄) (k : Chunk) (K : P F) :
    iprop(st m κ c 0 ∗ drainA c k) ⊢ iprop(((st m κ c 0 ∗ drainB m c k) -∗ runs c K Kt) -∗ runs c (drain c k K) Kt) := by
  unfold drainA drainB drain
  iintro ⟨Hs, H0, H2⟩ Hk
  iapply (wp_take m κ c Kt (0, k) (src := rC k) (dst := xC k) rfl 0 (by rw [MayWait_zero]; iintro -; iempintro)) $$ [Hs H0]
  · isplitl [Hs] <;> iassumption
  iintro ⟨Hs, H0⟩
  iapply (wp_take m κ c Kt (2, k) (src := oC c k) (dst := oC c k) rfl 0 (by rw [MayWait_zero]; iintro -; iempintro)) $$ [Hs H2]
  · isplitl [Hs] <;> iassumption
  iintro ⟨Hs, H2⟩
  iapply Hk
  isplitl [Hs]; · iexact Hs
  isplitl [H0]; · iexact H0
  iexact H2

end Cert.Mesh

end
-- ==== Proof.Exchange.lean ====
/-
The exchange of one device as a whole: its four loops between the first wait for its own rows and the end.
-/
module

public import proofs.«01_k».proof.Proof.Steps

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A resource for each of the 33 semaphores: the barrier's, and eight of each group. -/
theorem each_sem (Φ : CK → sProp 𝕄) : bigSep Finset.univ Φ
    = iprop(Φ none ∗ (bigSep Finset.univ fun k : Chunk => Φ (some (0, k))) ∗ (bigSep Finset.univ fun k : Chunk => Φ (some (1, k)))
        ∗ (bigSep Finset.univ fun k : Chunk => Φ (some (2, k))) ∗ bigSep Finset.univ fun k : Chunk => Φ (some (3, k))) := by
  have hu : (Finset.univ : Finset CK) = insert none ((Finset.univ : Finset (Fin 4 × Chunk)).map Function.Embedding.some) := by
    ext x; cases x <;> simp
  rw [hu, SparseCore.bigSep_insert' (by simp), BI.bigSep_map, BI.bigSep_univ_prod,
    bigSep_univ_eq_bigSepL [(0 : Fin 4), 1, 2, 3] (by decide) (by decide), bigSepL_cons_cons, bigSepL_cons_cons, bigSepL_cons_cons, bigSepL_singleton]
  rfl

variable (m : (ℓ : Loc nD τ sig) → Buf (Elt F) ℓ) (κ : Dev nD × CK → ℕ) (c : Dev nD)

/-- A group's resource for a set of chunks. -/
abbrev each (s : Finset Chunk) (Φ : Chunk → sProp 𝕄) : sProp 𝕄 := bigSep s Φ
abbrev every (Φ : Chunk → sProp 𝕄) : sProp 𝕄 := bigSep Finset.univ Φ

/-- Where a device stands with group `j`'s eight semaphores, before (`r = 0`) or after (`r = 1`) their round. -/
def stand (j : Fin 4) (r : ℕ) : sProp 𝕄 := every fun k => atPos ER (cell c (some (j, k))) r ∅ 0
/-- Device `d`'s duties on group `j`, to be paid by this device. -/
def toks (d : Dev nD) (j : Fin 4) : sProp 𝕄 := every fun k => dutyTok ER (cell d (some (j, k))) 0 false
/-- The credit for waiting on group `j`. -/
def credits (j : Fin 4) : sProp 𝕄 := every fun k => cred (tallyAt (cell c (some (j, k))) () N)

/-- A half of the input block on its way into the own-rows buffer. -/
def flightTop : sProp 𝕄 := iprop(∃ fd : S256x256.Idx → Elt F .f32, Transfers.Flight countersEmb (c : Thread nD τ) (.dma cc0_scratch2.sem) () xTop.view.dmaCredit
  iprop((xTop.view.loc (c : Thread nD τ) ↦[xTop.view.set]{fullShare}
      xTop.view.write (Elt F) fd (argTop.view.read (Elt F) (m ((c : Thread nD τ).loc main_arg0))) Finset.univ) ∗ topArg c m fullShare.left))
def flightBot : sProp 𝕄 := iprop(∃ fd : S256x256.Idx → Elt F .f32, Transfers.Flight countersEmb (c : Thread nD τ) (.dma cc0_scratch3.sem) () xBot.view.dmaCredit
  iprop((xBot.view.loc (c : Thread nD τ) ↦[xBot.view.set]{fullShare}
      xBot.view.write (Elt F) fd (argBot.view.read (Elt F) (m ((c : Thread nD τ).loc main_arg0))) Finset.univ) ∗ botArg c m fullShare.right))

theorem which_in : which (.dma cc0_scratch2.sem : SemLoc sig) = none := which_none (by decide +kernel)
theorem which_in2 : which (.dma cc0_scratch3.sem : SemLoc sig) = none := which_none (by decide +kernel)

/-- The first half of the own rows is there. -/
theorem wp_top (Kt : PUnit → sProp 𝕄) (K : P F) {hsrc : argTop.view.WordExact} {hdst : xTop.view.WordExact} (xs ys : List Chunk) :
    iprop(st m κ c (owed c xs ys) ∗ flightTop m c)
      ⊢ iprop(((st m κ c (owed c xs ys) ∗ topPts c (ownX m c) ∗ topArg c m fullShare.left ∗ semVal ((c : Thread nD τ), .dma cc0_scratch2.sem) 0) -∗ runs c K Kt)
          -∗ runs c (.op (.waitDma2 cc0_scratch2.sem argTop xTop hsrc hdst) fun _ => K) Kt) := by
  unfold st flightTop
  iintro ⟨⟨#HR, #Hlev, %W, HO⟩, %fd, Hf⟩ Hk
  iapply (Transfers.wp_waitLocalO countersEmb 𝒱₀ (c : Thread nD τ) none (srcw := argTop) (dstw := xTop) () rfl) $$ [Hf HO]
  · isplitl [Hf]; · iexact Hf
    isplitl [HO]; · iexact HO
    iapply (mayWait_low c _ (by rw [which_in]; decide) xs ys); iexact Hlev
  iintro ⟨⟨Hx, Ha⟩, Hv, HO⟩
  iapply Hk
  isplitl [HO]
  · isplitr; · iexact HR
    isplitr; · iexact Hlev
    iexists _; iexact HO
  isplitl [Hx]; · iapply (Entails.of_eq (top_filled c m fd)); iexact Hx
  isplitl [Ha] <;> iassumption

/-- And the second half. -/
theorem wp_bot (Kt : PUnit → sProp 𝕄) (K : P F) {hsrc : argBot.view.WordExact} {hdst : xBot.view.WordExact} (xs ys : List Chunk) :
    iprop(st m κ c (owed c xs ys) ∗ flightBot m c)
      ⊢ iprop(((st m κ c (owed c xs ys) ∗ botPts c (ownX m c) ∗ botArg c m fullShare.right ∗ semVal ((c : Thread nD τ), .dma cc0_scratch3.sem) 0) -∗ runs c K Kt)
          -∗ runs c (.op (.waitDma2 cc0_scratch3.sem argBot xBot hsrc hdst) fun _ => K) Kt) := by
  unfold st flightBot
  iintro ⟨⟨#HR, #Hlev, %W, HO⟩, %fd, Hf⟩ Hk
  iapply (Transfers.wp_waitLocalO countersEmb 𝒱₀ (c : Thread nD τ) none (srcw := argBot) (dstw := xBot) () rfl) $$ [Hf HO]
  · isplitl [Hf]; · iexact Hf
    isplitl [HO]; · iexact HO
    iapply (mayWait_low c _ (by rw [which_in2]; decide) xs ys); iexact Hlev
  iintro ⟨⟨Hx, Ha⟩, Hv, HO⟩
  iapply Hk
  isplitl [HO]
  · isplitr; · iexact HR
    isplitr; · iexact Hlev
    iexists _; iexact HO
  isplitl [Hx]; · iapply (Entails.of_eq (bot_filled c m fd)); iexact Hx
  isplitl [Ha] <;> iassumption

/-- The sends of the chunks `ks`, `xs` left for later. -/
theorem wp_sends (Kt : PUnit → sProp 𝕄) (K : P F) (ks xs : List Chunk) (hk : ks.Nodup) :
    iprop(st m κ c (owed c (ks ++ xs) chunks) ∗ each ks.toFinset (fun k => xPts c k fullShare (ownX m c)) ∗ each ks.toFinset (fun k => iprop(∃ f, rPts (devX c) k f))
        ∗ each ks.toFinset (fun k => dutyTok ER (cell c (some (0, k))) 0 false) ∗ each ks.toFinset (fun k => dutyTok ER (cell (devX c) (some (1, k))) 0 false))
      ⊢ iprop(((st m κ c (owed c xs chunks) ∗ each ks.toFinset (fun k => xPts c k fullShare.right (ownX m c))
          ∗ each ks.toFinset (fun k => cred (tallyAt (cell c (some (0, k))) () N))) -∗ runs c K Kt) -∗ runs c (loop (sendX c) ks K) Kt) := by
  have h := wp_loop c Kt (sendX c) (fun ks => st m κ c (owed c (ks ++ xs) chunks)) (sendA m c) (sendB m c)
    (fun k ks K => step_send m κ c Kt k (ks ++ xs) chunks K) ks hk K
  unfold sendA sendB at h
  simp only [bigSep_sep'] at h
  exact h

/-- What a device has before its exchange; -/
def exchPre : sProp 𝕄 :=
  iprop(st m κ c (owed c chunks chunks) ∗ flightTop m c ∗ flightBot m c ∗ pay m c none false ∗ pay m c none true
    ∗ (toks c 0 ∗ toks (devX c) 1 ∗ toks c 2 ∗ toks (devY c) 3) ∗ (credits c 1 ∗ credits c 3)
    ∗ (stand c 0 0 ∗ stand c 1 0 ∗ stand c 2 0 ∗ stand c 3 0))
/-- and after it. -/
def exchPost : sProp 𝕄 :=
  iprop(st m κ c 0 ∗ (every fun k => xPts c k fullShare.left (ownX m c)) ∗ (every fun k => xPts c k fullShare.right (ownX m c))
    ∗ (every fun k => rPts c k (ownX m (devX c))) ∗ (every fun k => oPts c c k (result m c)) ∗ (every fun k => oPts c (devY c) k (result m c))
    ∗ (topArg c m fullShare.left ∗ semVal ((c : Thread nD τ), .dma cc0_scratch2.sem) 0) ∗ (botArg c m fullShare.right ∗ semVal ((c : Thread nD τ), .dma cc0_scratch3.sem) 0)
    ∗ (stand c 0 1 ∗ stand c 1 1 ∗ stand c 2 1 ∗ stand c 3 1))

theorem wp_adds (Kt : PUnit → sProp 𝕄) (K : P F) :
    iprop(st m κ c (owed c [] chunks) ∗ (credits c 1 ∗ stand c 1 0) ∗ (every fun k => xPts c k fullShare.right (ownX m c))
        ∗ (every fun k => iprop(∃ f, oPts c c k f)) ∗ (every fun k => iprop(∃ f, oPts (devY c) c k f)) ∗ toks c 2 ∗ toks (devY c) 3)
      ⊢ iprop(((st m κ c (owed c [] []) ∗ stand c 1 1 ∗ (every fun k => xPts c k fullShare.right (ownX m c)) ∗ (every fun k => rPts c k (ownX m (devX c)))
          ∗ credits c 2) -∗ runs c K Kt) -∗ runs c (loop (addSend c) chunks K) Kt) := by
  have h := wp_loop c Kt (addSend c) (fun ks => st m κ c (owed c [] ks)) (addA m c) (addB m c)
    (fun k ks K => step_add m κ c Kt k ks K) chunks (by decide) K
  unfold addA addB at h
  simp only [bigSep_sep', chunks_univ] at h
  exact h

theorem wp_recvs (Kt : PUnit → sProp 𝕄) (K : P F) :
    iprop(st m κ c 0 ∗ credits c 3 ∗ stand c 3 0)
      ⊢ iprop(((st m κ c 0 ∗ stand c 3 1 ∗ every fun k => oPts c (devY c) k (result m c)) -∗ runs c K Kt) -∗ runs c (loop (recvY c) chunks K) Kt) := by
  have h := wp_loop c Kt (recvY c) (fun ks => st m κ c 0) (recvA c) (recvB m c) (fun k ks K => step_recv m κ c Kt k K) chunks (by decide) K
  unfold recvA recvB at h
  simp only [bigSep_sep', chunks_univ] at h
  exact h

theorem wp_drains (Kt : PUnit → sProp 𝕄) (K : P F) :
    iprop(st m κ c 0 ∗ (credits c 0 ∗ stand c 0 0) ∗ credits c 2 ∗ stand c 2 0)
      ⊢ iprop(((st m κ c 0 ∗ (stand c 0 1 ∗ every fun k => xPts c k fullShare.left (ownX m c)) ∗ stand c 2 1 ∗ every fun k => oPts c c k (result m c))
          -∗ runs c K Kt) -∗ runs c (loop (drain c) chunks K) Kt) := by
  have h := wp_loop c Kt (drain c) (fun ks => st m κ c 0) (drainA c) (drainB m c) (fun k ks K => step_drain m κ c Kt k K) chunks (by decide) K
  unfold drainA drainB at h
  simp only [bigSep_sep', chunks_univ] at h
  exact h

/-- The exchange runs to its end, every own semaphore's round over. -/
theorem wp_exchange (Kt : PUnit → sProp 𝕄) :
    iprop((∃ f : S256x512.Idx → Elt F .f32, every fun k => oPts c c k f) ∗ exchPre m κ c)
      ⊢ iprop((exchPost m κ c -∗ Kt ⟨⟩) -∗ runs c (exchange c) Kt) := by
  unfold exchPre exchPost exchange
  iintro ⟨⟨%f, Hoc⟩, Hs, Hft, Hfb, Hrx, Hoy, ⟨Ht0, Ht1, Ht2, Ht3⟩, ⟨Hc1, Hc3⟩, Hp0, Hp1, Hp2, Hp3⟩ Hk
  -- the receive buffer and the tokens, by halves
  ihave Hrx := (Entails.of_eq (show pay m c none false = _ from all_chunks (fun k => iprop(∃ f, rPts (devX c) k f)))) $$ Hrx
  ihave Ht0 := (Entails.of_eq (show toks c 0 = _ from all_chunks (fun k => dutyTok ER (cell c (some (0, k))) 0 false))) $$ Ht0
  ihave Ht1 := (Entails.of_eq (show toks (devX c) 1 = _ from all_chunks (fun k => dutyTok ER (cell (devX c) (some (1, k))) 0 false))) $$ Ht1
  ihave Hoy := (Entails.of_eq (show pay m c none true = every (fun k => iprop(∃ f, oPts (devY c) c k f)) from rfl)) $$ Hoy
  icases Hrx with ⟨HrL, HrH⟩
  icases Ht0 with ⟨Ht0L, Ht0H⟩
  icases Ht1 with ⟨Ht1L, Ht1H⟩
  iapply (wp_top m κ c Kt) $$ [Hs Hft]
  · isplitl [Hs] <;> iassumption
  iintro ⟨Hs, Hx, Hta⟩
  iapply (wp_sends m κ c Kt _ lo hi (by decide)) $$ [Hs Hx HrL Ht0L Ht1L]
  · isplitl [Hs]; · iexact Hs
    isplitl [Hx]; · iapply (Entails.of_eq (top_pieces c (ownX m c))); iexact Hx
    isplitl [HrL]; · iexact HrL
    isplitl [Ht0L] <;> iassumption
  iintro ⟨Hs, HxL, Hc0L⟩
  iapply (wp_bot m κ c Kt) $$ [Hs Hfb]
  · isplitl [Hs] <;> iassumption
  iintro ⟨Hs, Hx, Hba⟩
  iapply (wp_sends m κ c Kt _ hi [] (by decide)) $$ [Hs Hx HrH Ht0H Ht1H]
  · isplitl [Hs]; · iexact Hs
    isplitl [Hx]; · iapply (Entails.of_eq (bot_pieces c (ownX m c))); iexact Hx
    isplitl [HrH]; · iexact HrH
    isplitl [Ht0H] <;> iassumption
  iintro ⟨Hs, HxH, Hc0H⟩
  iapply (wp_adds m κ c Kt) $$ [Hs Hc1 Hp1 HxL HxH Hoc Hoy Ht2 Ht3]
  · isplitl [Hs]; · iexact Hs
    isplitl [Hc1 Hp1]; · isplitl [Hc1] <;> iassumption
    isplitl [HxL HxH]
    · iapply (Entails.of_eq (all_chunks (fun k => xPts c k fullShare.right (ownX m c))).symm)
      isplitl [HxL] <;> iassumption
    isplitl [Hoc]
    · iapply (show (every fun k => oPts c c k f) ⊢ (every fun k => iprop(∃ f, oPts c c k f) : sProp 𝕄) from
        BI.bigSep_mono fun k _ => show iprop(oPts c c k f) ⊢ iprop(∃ f, oPts c c k f) by iintro H; iexists f; iexact H)
      iexact Hoc
    isplitl [Hoy]; · iexact Hoy
    isplitl [Ht2] <;> iassumption
  iintro ⟨Hs, Hp1, Hxr, Hr, Hc2⟩
  ihave Hs := (Entails.of_eq (congrArg (st m κ c) (owed_nil c))) $$ Hs
  iapply (wp_recvs m κ c Kt) $$ [Hs Hc3 Hp3]
  · isplitl [Hs]; · iexact Hs
    isplitl [Hc3] <;> iassumption
  iintro ⟨Hs, Hp3, Hoy⟩
  iapply (wp_drains m κ c Kt) $$ [Hs Hc0L Hc0H Hp0 Hc2 Hp2]
  · isplitl [Hs]; · iexact Hs
    isplitl [Hc0L Hc0H Hp0]
    · isplitl [Hc0L Hc0H]
      · iapply (Entails.of_eq (show credits c 0 = _ from all_chunks (fun k => cred (tallyAt (cell c (some (0, k))) () N))).symm)
        isplitl [Hc0L] <;> iassumption
      iexact Hp0
    isplitl [Hc2] <;> iassumption
  iintro ⟨Hs, ⟨Hp0, Hxl⟩, Hp2, Hoc⟩
  unfold runs; rw [wp_ret]; imodintro
  iapply Hk
  isplitl [Hs]; · iexact Hs
  isplitl [Hxl]; · iexact Hxl
  isplitl [Hxr]; · iexact Hxr
  isplitl [Hr]; · iexact Hr
  isplitl [Hoc]; · iexact Hoc
  isplitl [Hoy]; · iexact Hoy
  isplitl [Hta]; · iexact Hta
  isplitl [Hba]; · iexact Hba
  isplitl [Hp0]; · iexact Hp0
  isplitl [Hp1]; · iexact Hp1
  isplitl [Hp2] <;> iassumption

end Cert.Mesh

end
-- ==== Proof.Body.lean ====
/-
The kernel's body on one device: its two copies from the input, the barrier with its partners, the exchange, and the
buffers and semaphores it ends with.
-/
module

public import proofs.«01_k».proof.Proof.Exchange

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × CK → ℕ) (c : Dev nD)

/-- The duties device `c` pays: a unit on each partner's barrier, and both ends of its sixteen transfers. -/
def dues : sProp 𝕄 :=
  iprop(dutyTok ER (cell (devX c) none) 0 false ∗ dutyTok ER (cell (devY c) none) 0 true
    ∗ toks c 0 ∗ toks (devX c) 1 ∗ toks c 2 ∗ toks (devY c) 3)
/-- Where it stands with its own 33 semaphores before round `r` of each. -/
def places (r : ℕ) : sProp 𝕄 := bigSep Finset.univ fun k : CK => atPos ER (cell c k) r ∅ 0
/-- The units it waits for on semaphores that other devices feed. -/
def awaited : sProp 𝕄 := iprop(cred (tallyAt (cell c none) () 2) ∗ credits c 1 ∗ credits c 3)
/-- The two semaphores of the copies from its input, at zero. -/
def copySems : sProp 𝕄 :=
  iprop(semVal ((c : Thread nD τ), .dma cc0_scratch2.sem) 0 ∗ semVal ((c : Thread nD τ), .dma cc0_scratch3.sem) 0)
/-- Its input block, unchanged. -/
def argPts : sProp 𝕄 := ((c : Thread nD τ).loc main_arg0) ↦{fullShare} m ((c : Thread nD τ).loc main_arg0)
/-- Its two scratch buffers, at some contents. -/
def scratch : sProp 𝕄 :=
  iprop((∃ f : S256x256.Idx → Elt F .f32, ((c : Thread nD τ).loc cc0_scratch0) ↦{fullShare} f)
    ∗ ∃ f : S256x256.Idx → Elt F .f32, ((c : Thread nD τ).loc cc0_scratch1) ↦{fullShare} f)
/-- Its result's staging buffer. -/
def outPts (f : S256x512.Idx → Elt F .f32) : sProp 𝕄 := ((c : Thread nD τ).loc cc0_stg0_0) ↦{fullShare} f

/-- What a device has before its body; -/
def bodyStart : sProp 𝕄 :=
  iprop(st m κ c (owedStart c) ∗ places c 0 ∗ dues c ∗ awaited c ∗ copySems c ∗ argPts m c ∗ scratch c ∗ ∃ f, outPts c f)
/-- and after it: nothing owed, its input and its semaphores as they were, and the result. -/
def bodyEnd : sProp 𝕄 :=
  iprop((∃ W, owes (c : Thread nD τ) (0 : CellTallies nD τ sig Unit) W) ∗ (bigSep Finset.univ fun k : CK => semVal (cell c k) 0) ∗ copySems c ∗ argPts m c ∗ scratch c
    ∗ outPts c (result m c))

/-- When a device's rounds are over, its semaphores are its own again, at zero. -/
theorem close_all : iprop(records m κ ∗ places c 1) ⊢ |={Set.univ}=> (bigSep Finset.univ fun k : CK => semVal (cell c k) 0 : sProp 𝕄) := by
  unfold places
  refine (sep_mono_left (BI.bigSep_of_persistent (Finset.univ : Finset CK) (records m κ))).trans ?_
  rw [← bigSep_sep']
  refine (BI.bigSep_mono fun k _ => show iprop(records m κ ∗ atPos ER (cell c k) 1 ∅ 0) ⊢ iprop(|={Set.univ}=> semVal (cell c k) 0) from ?_).trans (bigSep_fupd _ _)
  iintro ⟨#HR, Hat⟩
  iapply (Rounds.cell_close ER (rd m) (Set.mem_univ (κ (c, k))) (fun h => h) (R := 1) (duties_after m (cell c k)))
  isplitr; · iapply (inv_of m κ c k); iexact HR
  iexact Hat

/-- The receive buffer, handed to the first partner through its barrier. -/
theorem give_rows (f : S256x256.Idx → Elt F .f32) :
    (((c : Thread nD τ).loc cc0_scratch1) ↦{fullShare} f : sProp 𝕄) ⊢ pay m (devX c) none false := by
  rw [r_pieces]
  unfold pay
  rw [devX_devX]
  exact BI.bigSep_mono fun k _ => show iprop(rPts c k f) ⊢ iprop(∃ f, rPts c k f) by iintro H; iexists f; iexact H

/-- The second partner's columns of the result, handed to it through its barrier. -/
theorem give_cols (f : S256x512.Idx → Elt F .f32) :
    (every fun k => oPts c (devY c) k f : sProp 𝕄) ⊢ pay m (devY c) none true := by
  unfold pay
  rw [devY_devY]
  exact BI.bigSep_mono fun k _ => show iprop(oPts c (devY c) k f) ⊢ iprop(∃ f, oPts c (devY c) k f) by iintro H; iexists f; iexact H

/-- The own-rows buffer is whole again once the lent halves are back. -/
theorem x_rejoin (f : S256x256.Idx → Elt F .f32) :
    iprop((every fun k => xPts c k fullShare.left f) ∗ every fun k => xPts c k fullShare.right f)
      ⊢ (((c : Thread nD τ).loc cc0_scratch0) ↦{fullShare} f : sProp 𝕄) := by
  rw [x_pieces, ← bigSep_sep']
  exact BI.bigSep_mono fun k _ => (x_share c k f).2

/-- The copy of the first half of the input sets off. -/
theorem wp_copyTop (Kt : PUnit → sProp 𝕄) (K : P F) (f : S256x256.Idx → Elt F .f32) {hsrc : argTop.view.WordExact} {hdst : xTop.view.WordExact}
    {hsem : DmaTarget.Typed .hbm (.dma cc0_scratch2.sem) (.here (nD := nD) (p := (c : Thread nD τ).2) xTop)} :
    iprop(topArg c m fullShare.left ∗ topPts c f ∗ semVal ((c : Thread nD τ), .dma cc0_scratch2.sem) 0)
      ⊢ iprop((flightTop m c -∗ runs c K Kt)
          -∗ runs c (.op (.enqueueDma argTop (.here xTop) (.dma cc0_scratch2.sem) hsrc hdst hsem) fun _ => K) Kt) := by
  unfold topArg topPts flightTop
  iintro H Hk
  iapply (Transfers.wp_dmaLocal countersEmb 𝒱₀ (c : Thread nD τ) none (src := argTop) (dst := xTop) () xTop.view.dmaCredit rfl
    (View.dmaCredit_pos _ (by decide)) (Finset.Subset.refl _)) $$ H
  iintro Hf
  iapply Hk
  iexists f; unfold topArg; iexact Hf

/-- And of the second half. -/
theorem wp_copyBot (Kt : PUnit → sProp 𝕄) (K : P F) (f : S256x256.Idx → Elt F .f32) {hsrc : argBot.view.WordExact} {hdst : xBot.view.WordExact}
    {hsem : DmaTarget.Typed .hbm (.dma cc0_scratch3.sem) (.here (nD := nD) (p := (c : Thread nD τ).2) xBot)} :
    iprop(botArg c m fullShare.right ∗ botPts c f ∗ semVal ((c : Thread nD τ), .dma cc0_scratch3.sem) 0)
      ⊢ iprop((flightBot m c -∗ runs c K Kt)
          -∗ runs c (.op (.enqueueDma argBot (.here xBot) (.dma cc0_scratch3.sem) hsrc hdst hsem) fun _ => K) Kt) := by
  unfold botArg botPts flightBot
  iintro H Hk
  iapply (Transfers.wp_dmaLocal countersEmb 𝒱₀ (c : Thread nD τ) none (src := argBot) (dst := xBot) () xBot.view.dmaCredit rfl
    (View.dmaCredit_pos _ (by decide)) (Finset.Subset.refl _)) $$ H
  iintro Hf
  iapply Hk
  iexists f; unfold botArg; iexact Hf

/-- A unit on a partner's barrier, with what it hands over. -/
theorem wp_greet (Kt : PUnit → sProp 𝕄) (K : P F) (d : Dev nD) (b : Bool) (O : CellTallies nD τ sig Unit) :
    iprop(st m κ c (O + tallyAt (cell d none) () 1) ∗ dutyTok ER (cell d none) 0 b ∗ pay m d none b)
      ⊢ iprop((st m κ c O -∗ runs c K Kt) -∗ runs c (.op (.semSignal (d : Thread nD τ) barS 1) fun _ => K) Kt) := by
  unfold st
  iintro ⟨⟨#HR, #Hlev, %W, HO⟩, Ht, Hp⟩ Hk
  iapply (Rounds.wp_signal 𝒱₀ ER (rd m) (c : Thread nD τ) none (dst := (d : Thread nD τ)) (κ := κ (d, none)) (r := 0)
      (d := b) (by rw [duties_bar]; exact Finset.mem_univ _) (amount_bar m d b) () O rfl) $$ [HO Ht Hp]
  · isplitr; · iapply (inv_of m κ d none); iexact HR
    isplitl [HO]; · iexact HO
    isplitl [Ht]; · iexact Ht
    isplitl [Hp]; · iapply (Entails.of_eq (payload_cell m d none b).symm); iexact Hp
    iapply (reached_of m κ d none); iexact HR
  iintro HO
  iapply Hk
  isplitr; · iexact HR
  isplitr; · iexact Hlev
  iexists _; iexact HO

/-- Both partners have arrived: their units bring the buffers this device fills. -/
theorem wp_meet (Kt : PUnit → sProp 𝕄) (K : P F) (xs ys : List Chunk) :
    iprop(st m κ c (owed c xs ys) ∗ cred (tallyAt (cell c none) () 2) ∗ atPos ER (cell c none) 0 ∅ 0)
      ⊢ iprop(((st m κ c (owed c xs ys) ∗ atPos ER (cell c none) 1 ∅ 0 ∗ pay m c none false ∗ pay m c none true) -∗ runs c K Kt)
          -∗ runs c (.op (.semWait barS 2) fun _ => K) Kt) := by
  unfold st
  iintro ⟨⟨#HR, #Hlev, %W, HO⟩, Hc, Hat⟩ Hk
  iapply (Rounds.wp_wait_rest_token 𝒱₀ ER (rd m) (c : Thread nD τ) none (κ := κ (c, none))
      (wpE_semWait_eq 𝒱₀ (c : Thread nD τ) none Set.univ) (Set.mem_univ _) () (O := owed c xs ys) (W := W) (R := 0) (m := 0) (T := ∅)
      (by rw [expect_bar])) $$ [Hc HO Hat]
  · isplitr; · iapply (inv_of m κ c none); iexact HR
    isplitl [Hc]; · iexact Hc
    isplitl [HO]; · iexact HO
    isplitr; · iapply (mayWait_low c (csem none) (by rw [which_csem]; exact Nat.le_refl 1) xs ys); iexact Hlev
    iexact Hat
  iintro ⟨HO, Hat, -, Hp⟩
  iapply Hk
  isplitl [HO]
  · isplitr; · iexact HR
    isplitr; · iexact Hlev
    iexists _; iexact HO
  isplitl [Hat]; · iexact Hat
  iapply (Entails.of_eq (rest_bar m c)); iexact Hp

/-- The body runs to its end. -/
theorem wp_body (Kt : PUnit → sProp 𝕄) :
    bodyStart m κ c ⊢ iprop((bodyEnd m c -∗ Kt ⟨⟩) -∗ runs c (looped c) Kt) := by
  unfold bodyStart looped dues awaited copySems argPts scratch outPts places
  rw [each_sem]
  iintro ⟨Hs, ⟨Hpb, Hp⟩, ⟨Htx, Hty, Ht⟩, ⟨Hcb, Hc⟩, ⟨Hv2, Hv3⟩, Harg, ⟨⟨%fx, Hx⟩, ⟨%fr, Hr⟩⟩, ⟨%fo, Ho⟩⟩ Hk
  ihave Harg := (arg_pieces c m).1 $$ Harg
  icases Harg with ⟨⟨Hat, Har⟩, Hbt, Hbr⟩
  ihave Hx := (Entails.of_eq (x_halves c fx)) $$ Hx
  icases Hx with ⟨Hxt, Hxb⟩
  ihave Ho := (Entails.of_eq (o_pieces c fo)) $$ Ho
  icases Ho with ⟨Hoc, Hoy⟩
  iapply (wp_copyTop m c Kt _ fx) $$ [Hat Hxt Hv2]
  · isplitl [Hat]; · iexact Hat
    isplitl [Hxt] <;> iassumption
  iintro Hft
  iapply (wp_copyBot m c Kt _ fx) $$ [Hbt Hxb Hv3]
  · isplitl [Hbt]; · iexact Hbt
    isplitl [Hxb] <;> iassumption
  iintro Hfb
  unfold owedStart
  iapply (wp_greet m κ c Kt _ (devX c) false) $$ [Hs Htx Hr]
  · isplitl [Hs]; · iexact Hs
    isplitl [Htx]; · iexact Htx
    iapply (give_rows m c fr); iexact Hr
  iintro Hs
  iapply (wp_greet m κ c Kt _ (devY c) true) $$ [Hs Hty Hoy]
  · isplitl [Hs]; · iexact Hs
    isplitl [Hty]; · iexact Hty
    iapply (give_cols m c fo); iexact Hoy
  iintro Hs
  iapply (wp_meet m κ c Kt _ chunks chunks) $$ [Hs Hcb Hpb]
  · isplitl [Hs]; · iexact Hs
    isplitl [Hcb] <;> iassumption
  iintro ⟨Hs, Hpb, Hrx, Hoy⟩
  unfold runs
  iapply (wp_fupd _ _ _ (exchange c) Kt)
  iapply (wp_exchange m κ c (fun v => iprop(|={Set.univ}=> Kt v))) $$ [Hs Hft Hfb Hrx Hoy Ht Hc Hp Hoc]
  · isplitl [Hoc]; · iexists fo; iexact Hoc
    unfold exchPre stand
    isplitl [Hs]; · iexact Hs
    isplitl [Hft]; · iexact Hft
    isplitl [Hfb]; · iexact Hfb
    isplitl [Hrx]; · iexact Hrx
    isplitl [Hoy]; · iexact Hoy
    isplitl [Ht]; · iexact Ht
    isplitl [Hc]; · iexact Hc
    iexact Hp
  unfold exchPost st
  iintro ⟨⟨#HR, #Hlev, HO⟩, Hxl, Hxr, Hr, Hoc, Hoy, ⟨Hat, Hv2⟩, ⟨Hbt, Hv3⟩, Hp⟩
  imod (close_all m κ c) $$ [HR Hpb Hp] with Hz
  · isplitr; · iexact HR
    unfold places; rw [each_sem]
    isplitl [Hpb]; · iexact Hpb
    iexact Hp
  imodintro
  iapply Hk
  unfold bodyEnd copySems argPts scratch outPts
  isplitl [HO]; · iexact HO
  isplitl [Hz]; · iexact Hz
  isplitl [Hv2 Hv3]; · isplitl [Hv2] <;> iassumption
  isplitl [Hat Har Hbt Hbr]
  · iapply (arg_pieces c m).2
    isplitl [Hat Har]
    · isplitl [Hat] <;> iassumption
    · isplitl [Hbt] <;> iassumption
  isplitl [Hxl Hxr Hr]
  · isplitl [Hxl Hxr]
    · iexists ownX m c
      iapply (x_rejoin c (ownX m c))
      isplitl [Hxl] <;> iassumption
    · iexists ownX m (devX c)
      iapply (Entails.of_eq (r_pieces c (ownX m (devX c))).symm); iexact Hr
  iapply (Entails.of_eq (o_pieces c (result m c)).symm)
  isplitl [Hoc] <;> iassumption

end Cert.Mesh

end
-- ==== Proof.Launch.lean ====
/-
The launch of the four devices: what each gets at the start, its body as the launch theorem asks for it, and the run
of the whole program.
-/
module

public import proofs.«01_k».proof.Proof.Body
public import Idealize.ShloMosaic.Lib.Pipeline.ValueKit.Geometry
public import Idealize.ShloMosaic.Lib.Pipeline.CollectiveSegs

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## What the one grid point starts and ends with -/

/-- What the launch sets up for a device apart from its buffers. -/
def ghost : sProp 𝕄 := iprop((∃ κ, records m κ ∗ places c 0 ∗ dues c) ∗ copySems c)
/-- A device at the start: that, the units it awaits, and its input block. -/
def start : sProp 𝕄 := iprop(ghost m c ∗ awaited c ∗ levAts L lv ∗ argPts m c)
/-- And at the end: its semaphores at zero, and its input block. -/
def finish : sProp 𝕄 := iprop((bigSep Finset.univ fun k : CK => semVal (cell c k) 0) ∗ copySems c ∗ argPts m c)

/-- The one window is the result's; the array holds what it held before, the body leaves the result. -/
def dats (_ : Fin 1) (c : Dev nD) : Dat τ (Elt F) Unit ℕ UU ℕ cfg0 c where
  A w := m ((cfg0.win w).arr.view.loc (c : Thread nD τ))
  after w _ := match w with
    | ⟨0, _⟩ => result m c
    | ⟨_ + 1, h⟩ => absurd h (Nat.not_lt.2 (Nat.le_add_left _ _))
  Φ t := match t with
    | ⟨0, _⟩ => iprop(start m c ∗ scratch c)
    | ⟨_ + 1, _⟩ => iprop(finish m c ∗ scratch c)
  q _ := fullShare
  owed t := match t with
    | ⟨0, _⟩ => owedStart c
    | ⟨_ + 1, _⟩ => 0

/-- A whole buffer owned at contents `X`, spelled out. -/
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The result's staging buffer at contents `X`. -/
abbrev staged (X : S256x512.Idx → Elt F .f32) : sProp 𝕄 :=
  iprop(∃ f : Buf (Elt F) ((c : Thread nD τ).loc cc0_stg0_0), ⌜f = X⌝ ∗ (((c : Thread nD τ).loc cc0_stg0_0) ↦{fullShare} f))

/-- The body, on a device as the launch hands it over. -/
theorem body_obligation : BodyObligation (dats (F := F) m 0 c) (defs₀ (F := F)) 𝒱₀ () Set.univ := fun t => by
  rw [fin_N0 t]
  rw [bigSep_W0, bigSep_W0]
  simp only [owns_whole]
  show iprop((start m c ∗ scratch c) ∗ (dats m 0 c).owesAt () t0_0.castSucc ∗ (∃ d, staged c ((dats m 0 c).before (0 : Fin 1) t0_0 d)))
    ⊢ wp frame (wpE (defs₀ (F := F)) 𝒱₀ c none) Set.univ
      (cc0_body argM (Memref.isWhole_whole _) oM (Memref.isWhole_whole _) xM (Memref.isWhole_whole _) rM (Memref.isWhole_whole _)
        cc0_scratch2 cc0_scratch3 cc0_scratch4 cc0_scratch5 cc0_scratch6 cc0_scratch7)
      (fun _ => iprop((finish m c ∗ scratch c) ∗ (dats m 0 c).owesAt () t0_0.succ ∗ staged c (result m c)))
  rw [body_eq_looped, wp_deviceId]
  unfold start ghost finish Dat.owesAt Pipeline.owesWithin
  rw [show (dats m 0 c).owed t0_0.castSucc = owedStart c from rfl, show (dats m 0 c).owed t0_0.succ = 0 from rfl]
  iintro ⟨⟨⟨⟨⟨%κ, #HR, Hp, Hd⟩, Hv⟩, Hw, #Hlev, Ha⟩, Hs⟩, ⟨%W, %hW, HO⟩, %d, %f, %hf, Ho⟩
  iapply (wp_body m κ c _) $$ [Hp Hd Hv Hw Ha Hs HO Ho]
  · unfold bodyStart st
    isplitl [HO]
    · isplitr; · iexact HR
      isplitr; · iexact Hlev
      iexists W; iexact HO
    isplitl [Hp]; · iexact Hp
    isplitl [Hd]; · iexact Hd
    isplitl [Hw]; · iexact Hw
    isplitl [Hv]; · iexact Hv
    isplitl [Ha]; · iexact Ha
    isplitl [Hs]; · iexact Hs
    iexists f; unfold outPts; iexact Ho
  unfold bodyEnd outPts
  iintro ⟨⟨%W', HO⟩, Hz, Hv, Ha, Hs, Ho⟩
  isplitl [Hz Hv Ha Hs]
  · isplitl [Hz Hv Ha]
    · isplitl [Hz]; · iexact Hz
      isplitl [Hv] <;> iassumption
    iexact Hs
  isplitl [HO]
  · iexists W'
    isplitr; · ipureintro; exact fun _ _ => Or.inl trivial
    iexact HO
  iexists _; isplitr; · (ipureintro; rfl)
  iexact Ho

/-! ## The semaphores at the launch -/

/-- The kernel's own semaphores: two for the copies from the input, and the four groups of eight. -/
abbrev ownSem : Bool ⊕ (Fin 4 × Chunk) → SemLoc sig
  | .inl false => .dma cc0_scratch2.sem
  | .inl true => .dma cc0_scratch3.sem
  | .inr jk => csem (some jk)

theorem own_facts : Pipeline.OwnSemFacts cfg0.spec ownSem := by decide +kernel

abbrev ownSems : sProp 𝕄 := Pipeline.ownSems0 (Ix := Unit) (Name := ℕ) (U := UU) (Lvl := ℕ) (Val := Elt F) (τ := τ) ownSem c

/-- A resource for each of the 33 semaphores of the exchange: the barrier's, and the others'. -/
theorem bar_and (Φ : CK → sProp 𝕄) : bigSep Finset.univ Φ = iprop(Φ none ∗ bigSep Finset.univ fun jk : Fin 4 × Chunk => Φ (some jk)) := by
  have hu : (Finset.univ : Finset CK) = insert none ((Finset.univ : Finset (Fin 4 × Chunk)).map Function.Embedding.some) := by
    ext x; cases x <;> simp
  rw [hu, SparseCore.bigSep_insert' (by simp), BI.bigSep_map]; rfl

theorem sep_turn (A B C : sProp 𝕄) : iprop((A ∗ B) ∗ C) ⊢ iprop((C ∗ B) ∗ A) := by
  iintro ⟨⟨HA, HB⟩, HC⟩
  isplitr [HA]
  · isplitl [HC] <;> iassumption
  iexact HA

/-- The kernel's own semaphores with the runtime's barrier are the exchange's and the two copies'. -/
theorem all_sems : iprop(ownSems c ∗ unscopedSems0 c)
    = (iprop((bigSep Finset.univ fun k : CK => semVal (cell c k) 0) ∗ copySems c) : sProp 𝕄) := by
  have h1 : (ownSems c : sProp 𝕄) = iprop(copySems c ∗ bigSep Finset.univ fun jk : Fin 4 × Chunk => semVal (cell c (some jk)) 0) := by
    show bigSep Finset.univ (fun k => semVal ((c : Thread nD τ), ownSem k) 0) = _
    unfold copySems
    refine (BI.bigSep_univ_sum _).trans ?_
    rw [bigSep_univ_eq_bigSepL [false, true] (by decide) (by decide), bigSepL_cons_cons, bigSepL_singleton]
    rfl
  have h2 : (unscopedSems0 c : sProp 𝕄) = semVal (cell c none) 0 := by
    unfold unscopedSems0; rw [bigSep_eq_bigSepL_of_eq [SemLoc.reg barS] (by decide) (by decide)]; rfl
  rw [h1, h2, bar_and]
  exact BI.equiv_iff.mp ⟨sep_turn _ _ _, sep_turn _ _ _⟩

/-! ## What the exchange's rounds start with -/

def meshCells : Finset (GSem nD τ sig) := Finset.univ.map ⟨fun x : Dev nD × CK => cell x.1 x.2, cell_injective⟩

/-- A device's duty tokens as they are made: one per semaphore, and the barrier's second. -/
def mint (x : Dev nD × (Unit ⊕ CK)) : GSem nD τ sig × ℕ × Bool := match x.2 with
  | .inl _ => (cell x.1 none, 0, true)
  | .inr k => (cell x.1 k, 0, false)
theorem mint_injective : Function.Injective mint := by
  rintro ⟨c, (_ | k)⟩ ⟨c', (_ | k')⟩ h
  · have := cell_injective (a₁ := (c, none)) (a₂ := (c', none)) (congrArg Prod.fst h); cases this; rfl
  · exact absurd (congrArg (fun x : GSem nD τ sig × ℕ × Bool => x.2.2) h) Bool.noConfusion
  · exact absurd (congrArg (fun x : GSem nD τ sig × ℕ × Bool => x.2.2) h) Bool.noConfusion
  · have := cell_injective (a₁ := (c, k)) (a₂ := (c', k')) (congrArg Prod.fst h); cases this; rfl
def meshToks : Finset (GSem nD τ sig × ℕ × Bool) := Finset.univ.map ⟨mint, mint_injective⟩

/-- The ghost state at the launch: the pipeline's rounds, the exchange's, and no transfer under way. -/
def u₀ : UU := (initOf (Pipeline.cells cfgs cellOf_inj) (Pipeline.launchToks cfgs cellOf_inj), (initOf meshCells meshToks, 1))

theorem u₀_split : (ownU u₀ : sProp 𝕄) ⊢ iprop(BI.own (EP (F := F) (initOf (Pipeline.cells cfgs cellOf_inj) (Pipeline.launchToks cfgs cellOf_inj)))
    ∗ BI.own (ER (initOf meshCells meshToks))) := ownU_pair _ _

/-- The duty tokens of device `c`'s own semaphores. -/
def minted : sProp 𝕄 := iprop(dutyTok ER (cell c none) 0 true ∗ bigSep Finset.univ fun k : CK => dutyTok ER (cell c k) 0 false)

/-- What the exchange's ghost state gives device `c`. -/
def dealt : sProp 𝕄 :=
  iprop((bigSep Finset.univ fun k : CK => roundState ER (rd m) (cell c k) 0) ∗ (bigSep Finset.univ fun k : CK => reached ER (cell c k) 0)
    ∗ places c 0 ∗ minted c)

theorem fund_mesh : BI.own (ER (initOf meshCells meshToks)) ⊢ (|==> bigSep Finset.univ (dealt m) : sProp 𝕄) := by
  have hX (Φ : GSem nD τ sig → sProp 𝕄) : bigSep meshCells Φ = bigSep Finset.univ fun c : Dev nD => bigSep Finset.univ fun k : CK => Φ (cell c k) := by
    unfold meshCells; rw [bigSep_map, bigSep_univ_prod]; rfl
  have hT : bigSep meshToks (fun x => (dutyTok ER x.1 x.2.1 x.2.2 : sProp 𝕄)) = bigSep Finset.univ fun c : Dev nD => minted c := by
    unfold meshToks; rw [bigSep_map, bigSep_univ_prod]
    refine bigSep_congr fun c _ => ?_
    unfold minted
    refine (BI.bigSep_univ_sum _).trans ?_
    rw [bigSep_univ_eq_bigSepL [()] (by decide) (by decide), bigSepL_singleton]
    rfl
  refine (Rounds.fund ER (rd m) meshCells meshToks).trans (BI.bupd_mono ?_)
  rw [hX, hX, hX, hT]
  unfold dealt places
  rw [bigSep_sep', bigSep_sep', bigSep_sep']
  exact BI.Entails.refl _

/-- Every duty token goes to the device that pays the duty: a barrier's to the device's two partners, a received
    chunk's to its sender. -/
theorem deal_tokens : (bigSep Finset.univ fun c : Dev nD => (minted c : sProp 𝕄)) ⊢ bigSep Finset.univ fun c : Dev nD => dues c := by
  unfold minted dues
  simp only [each_sem]
  rw [bigSep_sep', bigSep_sep', bigSep_sep', bigSep_sep', bigSep_sep', bigSep_sep', bigSep_sep', bigSep_sep', bigSep_sep', bigSep_sep',
    bigSep_univ_equiv swapX (fun c : Dev nD => (dutyTok ER (cell c none) 0 false : sProp 𝕄)),
    bigSep_univ_equiv swapY (fun c : Dev nD => (dutyTok ER (cell c none) 0 true : sProp 𝕄)),
    bigSep_univ_equiv swapX (fun c : Dev nD => (every fun k => dutyTok ER (cell c (some (1, k))) 0 false : sProp 𝕄)),
    bigSep_univ_equiv swapY (fun c : Dev nD => (every fun k => dutyTok ER (cell c (some (3, k))) 0 false : sProp 𝕄))]
  unfold toks
  iintro ⟨Hy, Hx, H0, H1, H2, H3⟩
  isplitl [Hx]; · iexact Hx
  isplitl [Hy]; · iexact Hy
  isplitl [H0]; · iexact H0
  isplitl [H1]; · iexact H1
  isplitl [H2]; · iexact H2
  iexact H3

/-- A device's share once its semaphores are the exchange's, each under some name. -/
def allocated : sProp 𝕄 :=
  iprop((bigSep Finset.univ fun k : CK => iprop(∃ n : ℕ, cellInv ER (rd m) n (cell c k)))
    ∗ (bigSep Finset.univ fun k : CK => reached ER (cell c k) 0) ∗ places c 0 ∗ minted c ∗ copySems c)

/-- A device's semaphores become the exchange's. -/
theorem device_alloc :
    iprop(ownSems c ∗ unscopedSems0 c ∗ dealt m c)
      ⊢ |={Set.univ}=> (allocated m c : sProp 𝕄) := by
  unfold dealt allocated
  iintro ⟨Hos, Hus, Hst, Hr, Hat, Htok⟩
  ihave Hv := (Entails.of_eq (all_sems (F := F) c)) $$ [Hos Hus]
  · isplitl [Hos] <;> iassumption
  icases Hv with ⟨Hv, Hc⟩
  imod (show iprop((bigSep Finset.univ fun k : CK => semVal (cell c k) 0) ∗ bigSep Finset.univ fun k : CK => roundState ER (rd m) (cell c k) 0)
      ⊢ (|={Set.univ}=> bigSep Finset.univ fun k : CK => iprop(∃ n : ℕ, cellInv ER (rd m) n (cell c k)) : sProp 𝕄) from by
        rw [← bigSep_sep']
        exact (BI.bigSep_mono fun k _ => (Rounds.body_intro ER (rd m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- What all devices know is known to each. -/
theorem share_records (κ : Dev nD × CK → ℕ) :
    iprop(records m κ ∗ bigSep Finset.univ fun c : Dev nD => iprop(places c 0 ∗ dues c ∗ copySems c)) ⊢ bigSep Finset.univ (ghost (F := F) m) := by
  refine (sep_mono_left (BI.bigSep_of_persistent (Finset.univ : Finset (Dev nD)) (records m κ))).trans ?_
  rw [← bigSep_sep']
  refine BI.bigSep_mono fun c _ => show iprop(records m κ ∗ places c 0 ∗ dues c ∗ copySems c) ⊢ ghost m c from ?_
  unfold ghost
  iintro ⟨HR, Hp, Hd, Hc⟩
  isplitr [Hc]
  · iexists κ
    isplitl [HR]; · iexact HR
    isplitl [Hp] <;> iassumption
  iexact Hc

/-- The devices' semaphores put together: every name is known everywhere, and the tokens are dealt. -/
theorem gather : (bigSep Finset.univ (allocated m) : sProp 𝕄) ⊢ bigSep Finset.univ (ghost m) := by
  unfold allocated
  rw [bigSep_sep', bigSep_sep', bigSep_sep', bigSep_sep',
    ← bigSep_univ_prod (fun x : Dev nD × CK => iprop(∃ n : ℕ, cellInv ER (rd m) n (cell x.1 x.2))),
    ← bigSep_univ_prod (fun x : Dev nD × CK => (reached ER (cell x.1 x.2) 0 : sProp 𝕄))]
  iintro ⟨HI, HR, Hp, Ht, Hc⟩
  ihave HI := (BI.bigSep_exists_pi Finset.univ (fun (x : Dev nD × CK) (n : ℕ) => (cellInv ER (rd m) n (cell x.1 x.2) : sProp 𝕄))) $$ HI
  icases HI with ⟨%κ, HI⟩
  ihave Ht := (deal_tokens (F := F)) $$ Ht
  iapply (share_records m κ)
  isplitl [HI HR]
  · unfold records
    isplitl [HI] <;> iassumption
  rw [bigSep_sep', bigSep_sep']
  isplitl [Hp]; · iexact Hp
  isplitl [Ht] <;> iassumption

/-- The semaphores of all devices at once become the exchange's. -/
theorem mesh_alloc : (bigSep Finset.univ fun c : Dev nD => iprop(ownSems c ∗ unscopedSems0 c ∗ dealt m c) : sProp 𝕄)
    ⊢ |={Set.univ}=> bigSep Finset.univ (ghost m) := by
  have h : (bigSep Finset.univ fun c : Dev nD => iprop(ownSems c ∗ unscopedSems0 c ∗ dealt m c) : sProp 𝕄)
      ⊢ |={Set.univ}=> bigSep Finset.univ (allocated m) := (BI.bigSep_mono fun c _ => device_alloc m c).trans (bigSep_fupd _ _)
  iintro H
  imod h $$ H with H
  imodintro
  iapply (gather m); iexact H

/-! ## The units at the launch -/

theorem tally_cell (d : Dev nD) (x y : CK) (n : ℕ) :
    tallyAt (cell d x) () n (cell c y) () = if c = d ∧ y = x then n else 0 := by
  rw [tallyAt_apply]
  refine if_congr ⟨fun h => ?_, fun h => ?_⟩ rfl rfl
  · have := cell_injective (a₁ := (c, y)) (a₂ := (d, x)) h.1; cases this; exact ⟨rfl, rfl⟩
  · obtain ⟨rfl, rfl⟩ := h; exact ⟨rfl, rfl⟩

/-- A list's chunks are owed one transfer each. -/
theorem owedTo_cell (d : Dev nD) (j : Fin 4) (y : CK) (ks : List Chunk) (hk : ks.Nodup) :
    owedTo d j ks (cell c y) () = if c = d ∧ ∃ k ∈ ks, y = some (j, k) then N else 0 := by
  induction ks with
  | nil => rw [if_neg fun h => by obtain ⟨_, k, hk, _⟩ := h; cases hk]; rfl
  | cons k ks ih =>
    obtain ⟨h1, h2⟩ := List.nodup_cons.mp hk
    rw [owedTo_cons, Pi.add_apply, Finsupp.add_apply, tally_cell, ih h2]
    by_cases hc : c = d
    · by_cases hy : y = some (j, k)
      · rw [if_pos ⟨hc, hy⟩, if_neg, if_pos ⟨hc, k, List.mem_cons_self, hy⟩, Nat.add_zero]
        rintro ⟨_, k', hk', e⟩
        rw [hy] at e; cases e; exact h1 hk'
      · rw [if_neg fun h => hy h.2, Nat.zero_add]
        refine if_congr ⟨fun ⟨a, k', b, e⟩ => ⟨a, k', List.mem_cons_of_mem _ b, e⟩, fun ⟨a, k', b, e⟩ => ⟨a, k', ?_, e⟩⟩ rfl rfl
        rcases List.mem_cons.mp b with rfl | b
        · exact absurd e hy
        · exact b
    · rw [if_neg fun h => hc h.1, if_neg fun h => hc h.1, if_neg fun h => hc h.1]

theorem eq_devX {c d : Dev nD} : c = devX d ↔ d = devX c := ⟨fun h => by rw [h, devX_devX], fun h => by rw [h, devX_devX]⟩
theorem eq_devY {c d : Dev nD} : c = devY d ↔ d = devY c := ⟨fun h => by rw [h, devY_devY], fun h => by rw [h, devY_devY]⟩
theorem mem_chunks : ∀ k : Chunk, k ∈ chunks := by decide

/-- What device `d` owes semaphore `y` of device `c` at the launch. -/
theorem owedStart_cell (d : Dev nD) (y : CK) : owedStart d (cell c y) () =
    (((if d = devX c ∧ ∃ k ∈ chunks, y = some (1, k) then N else 0) + (if d = devY c ∧ ∃ k ∈ chunks, y = some (3, k) then N else 0))
      + (if d = devY c ∧ y = none then 1 else 0)) + if d = devX c ∧ y = none then 1 else 0 := by
  unfold owedStart owed
  simp only [Pi.add_apply, Finsupp.add_apply]
  rw [owedTo_cell c (devX d) 1 y chunks (by decide), owedTo_cell c (devY d) 3 y chunks (by decide), tally_cell, tally_cell]
  simp only [@eq_devX c d, @eq_devY c d]

/-- A device's launch units at one of its semaphores, from what the devices owe there. -/
theorem units_at (y : CK) (n : ℕ) (h : ∑ d : Dev nD, owedStart d (cell c y) () = n) :
    tallyOn (cell c y) (launchCredit (Pipeline.owing owedStart) 0 (cell c y)) = (tallyAt (cell c y) () n : CellTallies nD τ sig Unit) := by
  unfold tallyAt; refine congrArg _ (Finsupp.ext fun u => ?_); cases u
  rw [Pipeline.launchCredit_owing, Finsupp.single_eq_same, h]

theorem sum_none : ∑ d : Dev nD, owedStart d (cell c none) () = 2 := by
  rw [Finset.sum_congr rfl fun d _ => owedStart_cell c d none]
  simp only [reduceCtorEq, and_false, exists_false, if_false, and_true, Nat.zero_add]
  rw [Finset.sum_add_distrib, Finset.sum_ite_eq' Finset.univ (devY c) fun _ => 1, Finset.sum_ite_eq' Finset.univ (devX c) fun _ => 1,
    if_pos (Finset.mem_univ _), if_pos (Finset.mem_univ _)]
theorem sum_rows (k : Chunk) : ∑ d : Dev nD, owedStart d (cell c (some (1, k))) () = N := by
  have h1 : ∃ k' ∈ chunks, some ((1 : Fin 4), k) = some ((1 : Fin 4), k') := ⟨k, mem_chunks k, rfl⟩
  have h3 : ¬ ∃ k' ∈ chunks, some ((1 : Fin 4), k) = some ((3 : Fin 4), k') := by rintro ⟨k', _, e⟩; cases e
  rw [Finset.sum_congr rfl fun d _ => owedStart_cell c d (some (1, k))]
  simp only [h1, h3, reduceCtorEq, and_false, if_false, and_true, Nat.add_zero]
  rw [Finset.sum_ite_eq' Finset.univ (devX c) fun _ => N, if_pos (Finset.mem_univ _)]
theorem sum_sums (k : Chunk) : ∑ d : Dev nD, owedStart d (cell c (some (3, k))) () = N := by
  have h1 : ¬ ∃ k' ∈ chunks, some ((3 : Fin 4), k) = some ((1 : Fin 4), k') := by rintro ⟨k', _, e⟩; cases e
  have h3 : ∃ k' ∈ chunks, some ((3 : Fin 4), k) = some ((3 : Fin 4), k') := ⟨k, mem_chunks k, rfl⟩
  rw [Finset.sum_congr rfl fun d _ => owedStart_cell c d (some (3, k))]
  simp only [h1, h3, reduceCtorEq, and_false, if_false, and_true, Nat.add_zero, Nat.zero_add]
  rw [Finset.sum_ite_eq' Finset.univ (devY c) fun _ => N, if_pos (Finset.mem_univ _)]

/-- The units a device awaits are among those of the launch. -/
theorem await_units : (Pipeline.launchCred owedStart c : sProp 𝕄) ⊢ awaited c := by
  unfold Pipeline.launchCred awaited credits
  refine (BI.bigSep_subset (Finset.subset_univ ((Finset.univ : Finset CK).map ⟨csem, csem_injective⟩))).trans ?_
  rw [BI.bigSep_map]
  refine (Entails.of_eq (each_sem (F := F) fun y => cred (tallyOn (cell c y) (launchCredit (Pipeline.owing owedStart) 0 (cell c y))))).trans ?_
  rw [units_at c none 2 (sum_none c), bigSep_congr fun k _ => congrArg cred (units_at c (some (1, k)) N (sum_rows c k)),
    bigSep_congr fun k _ => congrArg cred (units_at c (some (3, k)) N (sum_sums c k))]
  iintro ⟨Hb, -, H1, -, H3⟩
  isplitl [Hb]; · iexact Hb
  isplitl [H1] <;> iassumption

/-! ## The run -/

variable (ρ : Dev nD → PrngReg)

theorem start_intro :
    iprop(Pipeline.unscopedRestP Pipeline.Prefetch.none cfg0.spec c (fun b => m ((c : Thread nD τ).loc b)) ∗ levAts L lv
        ∗ Pipeline.launchCred owedStart c ∗ prngReg c (ρ c) ∗ ghost m c)
      ⊢ |={Set.univ}=> (iprop(start m c ∗ emp) : sProp 𝕄) := by
  rw [Pipeline.unscopedRestP_none, unscopedRest0_eq]
  iintro ⟨Ha, Hlev, Hcr, -, HG⟩
  ihave Hc := (await_units (F := F) c) $$ Hcr
  imodintro
  unfold start argPts
  isplitl
  · isplitl [HG]; · iexact HG
    isplitl [Hc]; · iexact Hc
    isplitl [Hlev] <;> iassumption
  iempintro

theorem start_point :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

theorem end_point :
    (dats m 0 c).Φ (Fin.last cfg0.N) ⊢ iprop((unscopedSems0 c ∗ argPts m c) ∗ ownSems c ∗ Pipeline.scopedRest cfg0.spec c) := by
  rw [show (dats m 0 c).Φ (Fin.last cfg0.N) = iprop(finish m c ∗ scratch c) from rfl, scopedRest0_eq]
  unfold finish scratch
  iintro ⟨⟨Hz, Hv, Ha⟩, Hr⟩
  ihave H := (Entails.of_eq (all_sems (F := F) c).symm) $$ [Hz Hv]
  · isplitl [Hz] <;> iassumption
  icases H with ⟨Ho, Hu⟩
  isplitl [Hu Ha]
  · isplitl [Hu] <;> iassumption
  isplitl [Ho] <;> iassumption

theorem stage_outside : ∀ (w : Fin cfg0.W) (s : Fin (cfg0.win w).nbuf) (k : CK), csem k ≠ .dma ((cfg0.win w).sem s) := by decide +kernel

theorem waits : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (which_none (stage_outside w s))
    · show levAts L lv ⊢ MayWait (c : Thread nD τ) _ () 0
      rw [MayWait_zero]; iintro -; iempintro

/-- The result's array after the run. -/
theorem array_end : (dats (F := F) m 0 c).arrAt (0 : Fin 1) cfg0.N = result m c :=
  (dats m 0 c).arrAt_eq_of_after_last (0 : Fin 1) t0_0 (by decide +kernel) (result m c) fun j => rfl

set_option maxRecDepth 8000 in
/-- For any float values, from any memory with every semaphore at zero: every weakly fair execution on the four devices
    terminates, and in every final state each device's result array holds the sum, its input is unchanged and every
    semaphore is at zero. -/
theorem run_main : θ_run defs (onTc (τ := τ) (main (F := F))) ⟨m, fun _ => 0, ρ⟩
    (fun r => (∀ c : Dev nD, r.2.mem ((c : Thread nD τ).loc main_v1) = result m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := owedStart) (howed₀ := fun _ => rfl) (howedN := fun _ => rfl)
    (L := L) (lv := lv) (hL := L_of_ne) (hwaits := waits m)
    (G := dealt m) (G' := ghost m) (u₀ := u₀)
    (hu₀ := by
      iintro Hu
      ihave H := (u₀_split (F := F)) $$ Hu
      icases H with ⟨HP, HX⟩
      imod (fund_mesh m) $$ HX with HG
      imodintro
      isplitl [HP] <;> iassumption)
    (hglob := mesh_alloc m)
    (hA := fun _ _ => rfl) (hpf := fun _ k => k.elim0)
    (X := start m) (Y := fun c => iprop(unscopedSems0 c ∗ argPts m c)) (Z := fun _ => iprop(emp))
    (hX := fun c => start_intro m c ρ) (hin := start_point m) (hout := end_point m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Ha⟩, -, HSI⟩
      imod (Pipeline.unscopedSems0_read (X := unscopedSems0 c) (c := c) fupd_intro s') $$ [Hu HSI] with ⟨%hu, HSI⟩
      · isplitl [Hu] <;> iassumption
      ihave H := (pointsTo_read_all {()} (fun _ : Unit => (c : Thread nD τ).loc main_arg0) (fun _ => m ((c : Thread nD τ).loc main_arg0)) s') $$ [Ha HSI]
      · rw [bigSep_singleton]; unfold argPts
        isplitl [Ha] <;> iassumption
      icases H with ⟨%ha, HSI⟩
      imodintro
      isplitr; · ipureintro; exact ⟨hu, ha () (Finset.mem_singleton_self _)⟩
      iexact HSI)
    (hQ := fun _ h hs => ⟨fun c => ⟨((h c).1 (0 : Fin 1)).trans (array_end m c), (h c).2.2.2⟩, sem_eq_zero hs fun c => (h c).2.2.1⟩)

end Cert.Mesh

end
-- ==== Proof.Value.lean ====
/-
What the kernel computes, at the extended reals: the sum over the reference's leading axis, on every device.
-/
module

public import proofs.«01_k».proof.Proof.Launch
public import proofs.«01_k».proof.Proof.Gen.ReferenceIdeal.Run
public import Idealize.ShloMosaic.Lib.Layout
public import Idealize.ShloMosaic.Lib.ValueLayout
public import Idealize.ShloMosaic.Lib.IdealHost
public import Idealize.ShloMosaic.PureOps.Ideal.Laws

@[expose] public section

noncomputable section

namespace Cert.Mesh

open Cert.KernelIdeal Cert.KernelIdeal.Gen
open Idealize.ShloMosaic Idealize.ShloMosaic.TcCoe Idealize.ShloMosaic.ValueIdx

/-- The whole argument the reference sums: two layers of 256 rows by 512 columns. -/
abbrev Whole : Type := FVec Ideal (⟨3, ![2, 256, 512]⟩ : Shape) .f32

/-- The layer a device holds a part of: its row in the mesh. -/
def layer (d : Dev nD) : Fin 2 := ⟨d.val / 2, by have := d.isLt; simp only [nD] at this; omega⟩

/-- The column of the whole argument at which a device's block has its column `b`. -/
def column (d : Dev nD) (b : Fin 256) : Fin 512 := ⟨(d.val % 2) * 256 + b.val, by omega⟩

/-- The four devices hold the blocks of one whole argument. -/
def Holds (m : (ℓ : Loc nD τ sig) → Buf (Elt Ideal) ℓ) (x : Whole) : Prop :=
  ∀ c : Dev nD, m ((c : Thread nD τ).loc main_arg0)
    = Layout.blockN ⟨3, ![1, 256, 256]⟩ ⟨3, ![2, 256, 512]⟩ (Layout.meshBlock [2, 2] ![[0], [], [1]] c) x

/-- A device's block, read in the whole argument. -/
theorem ownX_whole {m : (ℓ : Loc nD τ sig) → Buf (Elt Ideal) ℓ} {x : Whole} (hx : Holds m x) (d : Dev nD)
    (i : S256x256.Idx) : ownX m d i = x (ix3 (layer d) (i 0) (column d (i 1))) := by
  have hl : ∀ d : Dev nD, Layout.meshLin [2, 2] d.val [0] = d.val / 2 := by decide +kernel
  have hc : ∀ d : Dev nD, Layout.meshLin [2, 2] d.val [1] = d.val % 2 := by decide +kernel
  unfold ownX
  rw [hx d, Layout.blockN_apply]
  congr 1
  funext b
  apply Fin.ext
  rw [Layout.TilesN.idx_val]
  fin_cases b
  · exact (congrArg (· * 1 + 0) (hl d)).trans (Nat.mul_one (d.val / 2))
  · exact (Nat.zero_mul 256).symm ▸ Nat.zero_add _
  · exact congrArg (· * 256 + (i 1).val) (hc d)

/-- Across the rows of the mesh is the other layer, at the same columns. -/
theorem layer_devX : ∀ d : Dev nD, layer (devX d) = 1 - layer d := by decide +kernel

theorem column_devX (d : Dev nD) (b : Fin 256) : column (devX d) b = column d b := by
  have h : ∀ d : Dev nD, (devX d).val % 2 = d.val % 2 := by decide +kernel
  exact Fin.ext (congrArg (· * 256 + b.val) (h d))

/-- The device that fills a column of the result holds that very column of the argument. -/
theorem column_filler (c : Dev nD) (j : Fin 512) : column (filler c j) (inBlock j) = j := by
  apply Fin.ext
  have := j.isLt
  simp only [column, filler, inBlock]
  omega

/-- The sum of two layers does not depend on the one it starts from. -/
theorem add_other (f : Fin 2 → EReal) (k : Fin 2) : f k + f (1 - k) = f 0 + f 1 := by
  match k with
  | 0 => rfl
  | 1 => exact add_comm _ _

/-- At every index, on every device, the kernel's result is the sum of the two layers of the whole argument. -/
theorem result_whole {m : (ℓ : Loc nD τ sig) → Buf (Elt Ideal) ℓ} {x : Whole} (hx : Holds m x) (c : Dev nD)
    (i : S256x512.Idx) :
    result m c i = (x (ix3 0 (i 0) (i 1)) : EReal) + x (ix3 1 (i 0) (i 1)) := by
  show (ownX m (filler c (i 1)) _ : EReal) + ownX m (devX (filler c (i 1))) _ = _
  rw [ownX_whole hx, ownX_whole hx, layer_devX, column_devX]
  show (x (ix3 (layer (filler c (i 1))) (i 0) (column (filler c (i 1)) (inBlock (i 1)))) : EReal)
    + x (ix3 (1 - layer (filler c (i 1))) (i 0) (column (filler c (i 1)) (inBlock (i 1)))) = _
  have hj := column_filler c (i 1)
  exact (congrArg (fun j : Fin 512 => (x (ix3 (layer (filler c (i 1))) (i 0) j) : EReal)
    + x (ix3 (1 - layer (filler c (i 1))) (i 0) j)) hj).trans (add_other (fun k => x (ix3 k (i 0) (i 1))) _)

/-- The reference's value of the whole argument. -/
def total (x : Whole) : FVec Ideal (⟨2, ![256, 512]⟩ : Shape) .f32 :=
  Host.reduceAdd x (constant Cert.ReferenceIdeal.S_ .f32 0x00000000#32)
    Cert.ReferenceIdeal.Gen.reducesTo_S2x256x512_S256x512_d0 Cert.ReferenceIdeal.Gen.h_S_

/-- The reference's value at an index is the sum of the two layers there. -/
theorem total_apply (x : Whole) (i : (⟨2, ![256, 512]⟩ : Shape).Idx) :
    total x i = (x (ix3 0 (i 0) (i 1)) : EReal) + x (ix3 1 (i 0) (i 1)) := by
  have h : (⟨3, ![2, 256, 512]⟩ : Shape).Reduces [0] ⟨2, ![256, 512]⟩ := by decide
  have hl : ∀ k : Fin 2, h.lift i k = ix3 k (i 0) (i 1) := fun k => by
    funext b; fin_cases b <;> rfl
  unfold total
  rw [hostReduceAdd_apply, Ideal.hostReduceAdd_single _ h]
  refine (congrArg₂ (· + ·) (Ideal.ofBits_zero_f32) (Fin.sum_univ_two (fun k : Fin 2 => (x (h.lift i k) : EReal)))).trans ?_
  rw [zero_add, hl, hl]
  rfl

/-- So every device ends with the reference's value. -/
theorem result_total {m : (ℓ : Loc nD τ sig) → Buf (Elt Ideal) ℓ} {x : Whole} (hx : Holds m x) (c : Dev nD) :
    result m c = total x :=
  funext fun i => (result_whole hx c i).trans (total_apply x i).symm

end Cert.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's two printed programs have the same text, so the same table of bodies. -/
theorem bodies_same {F : FTy → Type} [FloatOps F] : Cert.Kernel.defs₀ (F := F) = Cert.KernelIdeal.defs₀ (F := F) := by
  refine congrArg Defs.onTc (funext fun l => funext fun a => ?_)
  match l, a with
  | 0, (t, s) => rfl

/-- And the same table with the call's region. -/
theorem defs_same {F : FTy → Type} [FloatOps F] : Cert.Kernel.defs (F := F) = Cert.KernelIdeal.defs (F := F) :=
  congrArg (Pipeline.defs Cert.KernelIdeal.pcfgs) bodies_same

/-- Every run of the kernel ends with its argument unchanged and its semaphores at zero: the run over any float
    values (Proof/Launch.lean), at bit patterns. -/
theorem frame_kernel : Cert.quiescent_Kernel := fun m ρ _ => by
  rw [defs_same]
  exact (θ_run Cert.KernelIdeal.defs _ _).mono (fun _ h => ⟨fun c => (h.1 c).2, h.2⟩)
    (Cert.Mesh.run_main (F := Bits) m ρ)

/-- The same run at the extended reals. -/
theorem frame_ideal : Cert.quiescent_KernelIdeal := fun m ρ _ =>
  (θ_run Cert.KernelIdeal.defs _ _).mono (fun _ h => ⟨fun c => (h.1 c).2, h.2⟩) (Cert.Mesh.run_main (F := Ideal) m ρ)

/-- Every run of the reference ends with its argument unchanged; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From the blocks of one whole argument, every device ends with the whole result of the reference. -/
theorem algebraic : Cert.algebraic_KernelIdeal_ReferenceIdeal := fun m ρ m' ρ' _ hx =>
  ⟨Cert.Mesh.total (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c).1.trans (Cert.Mesh.result_total hx c), (h.1 c).2⟩) (Cert.Mesh.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
